-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_rows_and_labelled_classes [hPre_usable_rows_and_labelled_classes : Cert.Pre_usable_rows_and_labelled_classes.Facts] (m : (ℓ : Loc Cert.KernelIdeal.nD Cert.KernelIdeal.τ Cert.KernelIdeal.sig) → Buf (Elt Ideal) ℓ) : Prop :=
  ∀ c : Dev Cert.KernelIdeal.nD,
    (Cert.Pre_usable_rows_and_labelled_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_usable_rows [hPre_usable_rows : Cert.Pre_usable_rows.Facts] (m : (ℓ : Loc Cert.KernelIdeal.nD Cert.KernelIdeal.τ Cert.KernelIdeal.sig) → Buf (Elt Ideal) ℓ) : Prop :=
  ∀ c : Dev Cert.KernelIdeal.nD,
    (Cert.Pre_usable_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_rows_and_labelled_classes [hPre_usable_rows_and_labelled_classes : Cert.Pre_usable_rows_and_labelled_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_rows_and_labelled_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceByCountIdeal (m : (ℓ : Loc Cert.ReferenceByCountIdeal.nD Cert.ReferenceByCountIdeal.τ Cert.ReferenceByCountIdeal.sig) → Buf (Elt Ideal) ℓ) : Prop :=
  True

def Pre_ReferenceByCountIdeal_usable_rows [hPre_usable_rows : Cert.Pre_usable_rows.Facts] (m : (ℓ : Loc Cert.ReferenceByCountIdeal.nD Cert.ReferenceByCountIdeal.τ Cert.ReferenceByCountIdeal.sig) → Buf (Elt Ideal) ℓ) : Prop :=
  ∀ c : Dev Cert.ReferenceByCountIdeal.nD,
    (Cert.Pre_usable_rows.fn (F := Ideal) (m ((c.tc : Thread Cert.ReferenceByCountIdeal.nD Cert.ReferenceByCountIdeal.τ).loc Cert.ReferenceByCountIdeal.main_arg0)) (m ((c.tc : Thread Cert.ReferenceByCountIdeal.nD Cert.ReferenceByCountIdeal.τ).loc Cert.ReferenceByCountIdeal.main_arg1)) (m ((c.tc : Thread Cert.ReferenceByCountIdeal.nD Cert.ReferenceByCountIdeal.τ).loc Cert.ReferenceByCountIdeal.main_arg2)) (m ((c.tc : Thread Cert.ReferenceByCountIdeal.nD Cert.ReferenceByCountIdeal.τ).loc Cert.ReferenceByCountIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable_rows_and_labelled_classes [hKernelIdeal : Cert.KernelIdeal.Facts] [hPre_usable_rows_and_labelled_classes : Cert.Pre_usable_rows_and_labelled_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_rows_and_labelled_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable_rows [hKernelIdeal : Cert.KernelIdeal.Facts] [hPre_usable_rows : Cert.Pre_usable_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usable_rows_and_labelled_classes [hReferenceIdeal : Cert.ReferenceIdeal.Facts] [hPre_usable_rows_and_labelled_classes : Cert.Pre_usable_rows_and_labelled_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_rows_and_labelled_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceByCountIdeal [hReferenceByCountIdeal : Cert.ReferenceByCountIdeal.Facts] : Prop :=
  ∀ (m : (ℓ : Loc Cert.ReferenceByCountIdeal.nD Cert.ReferenceByCountIdeal.τ Cert.ReferenceByCountIdeal.sig) → Buf (Elt Ideal) ℓ) (g : Dev Cert.ReferenceByCountIdeal.nD → PrngReg), Pre_ReferenceByCountIdeal m →
    θ_run (Cert.ReferenceByCountIdeal.defs (F := Ideal)) (onTc (τ := Cert.ReferenceByCountIdeal.τ) (Cert.ReferenceByCountIdeal.main (F := Ideal))) ⟨m, fun _ => 0, g⟩ (fun r => (∀ c : Dev Cert.ReferenceByCountIdeal.nD,
      r.2.mem ((c.tc : Thread Cert.ReferenceByCountIdeal.nD Cert.ReferenceByCountIdeal.τ).loc Cert.ReferenceByCountIdeal.main_arg0) = m ((c.tc : Thread Cert.ReferenceByCountIdeal.nD Cert.ReferenceByCountIdeal.τ).loc Cert.ReferenceByCountIdeal.main_arg0)
      ∧ r.2.mem ((c.tc : Thread Cert.ReferenceByCountIdeal.nD Cert.ReferenceByCountIdeal.τ).loc Cert.ReferenceByCountIdeal.main_arg1) = m ((c.tc : Thread Cert.ReferenceByCountIdeal.nD Cert.ReferenceByCountIdeal.τ).loc Cert.ReferenceByCountIdeal.main_arg1)
      ∧ r.2.mem ((c.tc : Thread Cert.ReferenceByCountIdeal.nD Cert.ReferenceByCountIdeal.τ).loc Cert.ReferenceByCountIdeal.main_arg2) = m ((c.tc : Thread Cert.ReferenceByCountIdeal.nD Cert.ReferenceByCountIdeal.τ).loc Cert.ReferenceByCountIdeal.main_arg2)
      ∧ r.2.mem ((c.tc : Thread Cert.ReferenceByCountIdeal.nD Cert.ReferenceByCountIdeal.τ).loc Cert.ReferenceByCountIdeal.main_arg3) = m ((c.tc : Thread Cert.ReferenceByCountIdeal.nD Cert.ReferenceByCountIdeal.τ).loc Cert.ReferenceByCountIdeal.main_arg3))
      ∧ r.2.sem = fun _ => 0)

def quiescent_ReferenceByCountIdeal_pre_usable_rows [hReferenceByCountIdeal : Cert.ReferenceByCountIdeal.Facts] [hPre_usable_rows : Cert.Pre_usable_rows.Facts] : Prop :=
  ∀ (m : (ℓ : Loc Cert.ReferenceByCountIdeal.nD Cert.ReferenceByCountIdeal.τ Cert.ReferenceByCountIdeal.sig) → Buf (Elt Ideal) ℓ) (g : Dev Cert.ReferenceByCountIdeal.nD → PrngReg), Pre_ReferenceByCountIdeal_usable_rows m →
    θ_run (Cert.ReferenceByCountIdeal.defs (F := Ideal)) (onTc (τ := Cert.ReferenceByCountIdeal.τ) (Cert.ReferenceByCountIdeal.main (F := Ideal))) ⟨m, fun _ => 0, g⟩ (fun r => (∀ c : Dev Cert.ReferenceByCountIdeal.nD,
      r.2.mem ((c.tc : Thread Cert.ReferenceByCountIdeal.nD Cert.ReferenceByCountIdeal.τ).loc Cert.ReferenceByCountIdeal.main_arg0) = m ((c.tc : Thread Cert.ReferenceByCountIdeal.nD Cert.ReferenceByCountIdeal.τ).loc Cert.ReferenceByCountIdeal.main_arg0)
      ∧ r.2.mem ((c.tc : Thread Cert.ReferenceByCountIdeal.nD Cert.ReferenceByCountIdeal.τ).loc Cert.ReferenceByCountIdeal.main_arg1) = m ((c.tc : Thread Cert.ReferenceByCountIdeal.nD Cert.ReferenceByCountIdeal.τ).loc Cert.ReferenceByCountIdeal.main_arg1)
      ∧ r.2.mem ((c.tc : Thread Cert.ReferenceByCountIdeal.nD Cert.ReferenceByCountIdeal.τ).loc Cert.ReferenceByCountIdeal.main_arg2) = m ((c.tc : Thread Cert.ReferenceByCountIdeal.nD Cert.ReferenceByCountIdeal.τ).loc Cert.ReferenceByCountIdeal.main_arg2)
      ∧ r.2.mem ((c.tc : Thread Cert.ReferenceByCountIdeal.nD Cert.ReferenceByCountIdeal.τ).loc Cert.ReferenceByCountIdeal.main_arg3) = m ((c.tc : Thread Cert.ReferenceByCountIdeal.nD Cert.ReferenceByCountIdeal.τ).loc Cert.ReferenceByCountIdeal.main_arg3))
      ∧ r.2.sem = fun _ => 0)

def preserves_Kernel_KernelIdeal : Prop :=
  True

def algebraic_KernelIdeal_ReferenceIdeal_pre_usable_rows_and_labelled_classes [hKernelIdeal : Cert.KernelIdeal.Facts] [hReferenceIdeal : Cert.ReferenceIdeal.Facts] [hPre_usable_rows_and_labelled_classes : Cert.Pre_usable_rows_and_labelled_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_rows_and_labelled_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57_1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceByCountIdeal_pre_usable_rows [hKernelIdeal : Cert.KernelIdeal.Facts] [hReferenceByCountIdeal : Cert.ReferenceByCountIdeal.Facts] [hPre_usable_rows : Cert.Pre_usable_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceByCountIdeal.nD Cert.ReferenceByCountIdeal.τ Cert.ReferenceByCountIdeal.sig) → Buf (Elt Ideal) ℓ) (g' : Dev Cert.ReferenceByCountIdeal.nD → PrngReg), Pre_KernelIdeal_usable_rows m →
    (∀ c : Dev Cert.KernelIdeal.nD,
      m' ((c.tc : Thread Cert.ReferenceByCountIdeal.nD Cert.ReferenceByCountIdeal.τ).loc Cert.ReferenceByCountIdeal.main_arg0) = m ((c.tc : Thread Cert.KernelIdeal.nD Cert.KernelIdeal.τ).loc Cert.KernelIdeal.main_arg0)
      ∧ m' ((c.tc : Thread Cert.ReferenceByCountIdeal.nD Cert.ReferenceByCountIdeal.τ).loc Cert.ReferenceByCountIdeal.main_arg1) = m ((c.tc : Thread Cert.KernelIdeal.nD Cert.KernelIdeal.τ).loc Cert.KernelIdeal.main_arg1)
      ∧ m' ((c.tc : Thread Cert.ReferenceByCountIdeal.nD Cert.ReferenceByCountIdeal.τ).loc Cert.ReferenceByCountIdeal.main_arg2) = m ((c.tc : Thread Cert.KernelIdeal.nD Cert.KernelIdeal.τ).loc Cert.KernelIdeal.main_arg2)
      ∧ m' ((c.tc : Thread Cert.ReferenceByCountIdeal.nD Cert.ReferenceByCountIdeal.τ).loc Cert.ReferenceByCountIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceByCountIdeal.defs (F := Ideal)) (onTc (τ := Cert.ReferenceByCountIdeal.τ) (Cert.ReferenceByCountIdeal.main (F := Ideal))) ⟨m', fun _ => 0, g'⟩ (fun r => ∀ c : Dev Cert.ReferenceByCountIdeal.nD,
          r.2.mem ((c.tc : Thread Cert.ReferenceByCountIdeal.nD Cert.ReferenceByCountIdeal.τ).loc Cert.ReferenceByCountIdeal.main_v59_1) = v0 c
          ∧ r.2.mem ((c.tc : Thread Cert.ReferenceByCountIdeal.nD Cert.ReferenceByCountIdeal.τ).loc Cert.ReferenceByCountIdeal.main_arg0) = m' ((c.tc : Thread Cert.ReferenceByCountIdeal.nD Cert.ReferenceByCountIdeal.τ).loc Cert.ReferenceByCountIdeal.main_arg0)
          ∧ r.2.mem ((c.tc : Thread Cert.ReferenceByCountIdeal.nD Cert.ReferenceByCountIdeal.τ).loc Cert.ReferenceByCountIdeal.main_arg1) = m' ((c.tc : Thread Cert.ReferenceByCountIdeal.nD Cert.ReferenceByCountIdeal.τ).loc Cert.ReferenceByCountIdeal.main_arg1)
          ∧ r.2.mem ((c.tc : Thread Cert.ReferenceByCountIdeal.nD Cert.ReferenceByCountIdeal.τ).loc Cert.ReferenceByCountIdeal.main_arg2) = m' ((c.tc : Thread Cert.ReferenceByCountIdeal.nD Cert.ReferenceByCountIdeal.τ).loc Cert.ReferenceByCountIdeal.main_arg2)
          ∧ r.2.mem ((c.tc : Thread Cert.ReferenceByCountIdeal.nD Cert.ReferenceByCountIdeal.τ).loc Cert.ReferenceByCountIdeal.main_arg3) = m' ((c.tc : Thread Cert.ReferenceByCountIdeal.nD Cert.ReferenceByCountIdeal.τ).loc Cert.ReferenceByCountIdeal.main_arg3))

def Claim : Prop :=
  ∃ (hKernel : Cert.Kernel.Facts) (hKernelIdeal : Cert.KernelIdeal.Facts) (hReferenceIdeal : Cert.ReferenceIdeal.Facts) (hReferenceByCountIdeal : Cert.ReferenceByCountIdeal.Facts) (hPre_usable_rows_and_labelled_classes : Cert.Pre_usable_rows_and_labelled_classes.Facts) (hPre_usable_rows : Cert.Pre_usable_rows.Facts),
    quiescent_Kernel (hKernel := hKernel)
    ∧ quiescent_KernelIdeal (hKernelIdeal := hKernelIdeal)
    ∧ quiescent_KernelIdeal_pre_usable_rows_and_labelled_classes (hKernelIdeal := hKernelIdeal) (hPre_usable_rows_and_labelled_classes := hPre_usable_rows_and_labelled_classes)
    ∧ quiescent_KernelIdeal_pre_usable_rows (hKernelIdeal := hKernelIdeal) (hPre_usable_rows := hPre_usable_rows)
    ∧ quiescent_ReferenceIdeal (hReferenceIdeal := hReferenceIdeal)
    ∧ quiescent_ReferenceIdeal_pre_usable_rows_and_labelled_classes (hReferenceIdeal := hReferenceIdeal) (hPre_usable_rows_and_labelled_classes := hPre_usable_rows_and_labelled_classes)
    ∧ quiescent_ReferenceByCountIdeal (hReferenceByCountIdeal := hReferenceByCountIdeal)
    ∧ quiescent_ReferenceByCountIdeal_pre_usable_rows (hReferenceByCountIdeal := hReferenceByCountIdeal) (hPre_usable_rows := hPre_usable_rows)
    ∧ preserves_Kernel_KernelIdeal
    ∧ algebraic_KernelIdeal_ReferenceIdeal_pre_usable_rows_and_labelled_classes (hKernelIdeal := hKernelIdeal) (hReferenceIdeal := hReferenceIdeal) (hPre_usable_rows_and_labelled_classes := hPre_usable_rows_and_labelled_classes)
    ∧ algebraic_KernelIdeal_ReferenceByCountIdeal_pre_usable_rows (hKernelIdeal := hKernelIdeal) (hReferenceByCountIdeal := hReferenceByCountIdeal) (hPre_usable_rows := hPre_usable_rows)
-- ==== Pre_usable_rows.lean ====
abbrev S10000x10000 : Shape := ⟨2, ![10000, 10000]⟩
abbrev S10000 : Shape := ⟨1, ![10000]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)

variable [Facts]

def fn {F : FTy → Type} [FloatOps F] (main_arg0 : FVec F S10000x10000 .f32) (main_arg1 : IVec S10000 32) (main_arg2 : FVec F S10000x16 .f32) (main_arg3 : IVec S10000 1) : IVec S10000 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .oeq main_arg0 main_v0
  let main_c : IVec S_ 1 := constantI S_ 1 1#1
  let main_v2 : IVec S10000 1 := (fun x v => Host.reduce IntOp.andi x v reducesTo_S10000x10000_S10000_d1 h_S_) main_v1 main_c
  let main_v3 : IVec S10000 1 := noti main_arg3
  let main_v4 : IVec S10000 1 := andi main_v2 main_v3
  let main_cst_0 : FVec F S_ .f32 := constant S_ .f32 0x00000000#32
  let main_v5 : FVec F S10000 .f32 := (fun x v => Host.reduceAdd x v reducesTo_S10000x10000_S10000_d1 h_S_) main_arg0 main_cst_0
  let main_cst_1 : FVec F S_ .f32 := constant S_ .f32 0x00000000#32
  let main_v6 : FVec F S10000 .f32 := broadcastInDim S10000 ![] bcast_S_S10000 main_cst_1
  let main_v7 : IVec S10000 1 := cmpf .une main_v5 main_v6
  let main_v8 : IVec S10000 1 := ori main_v7 main_v4
  main_v8
-- ==== Pre_usable_rows_and_labelled_classes.lean ====
abbrev S10000x10000 : Shape := ⟨2, ![10000, 10000]⟩
abbrev S10000 : Shape := ⟨1, ![10000]⟩
abbrev S10000x16 : Shape := ⟨2, ![10000, 16]⟩
abbrev S_ : Shape := ⟨0, ![]⟩
abbrev S10000x1 : Shape := ⟨2, ![10000, 1]⟩
abbrev S16 : Shape := ⟨1, ![16]⟩
abbrev S1x16 : Shape := ⟨2, ![1, 16]⟩

class Facts : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S16_S1x16_1 : S16.BroadcastsInDim S1x16 (![1] : Fin 1 → Fin S1x16.rank)
  bcast_S10000x1_S10000x16_0_1 : S10000x1.BroadcastsInDim S10000x16 (![0, 1] : Fin 2 → Fin S10000x16.rank)
  bcast_S1x16_S10000x16_0_1 : S1x16.BroadcastsInDim S10000x16 (![0, 1] : Fin 2 → Fin S10000x16.rank)
  reducesTo_S10000_S_d0 : S10000.ReducesTo [0] S_
  reducesTo_S10000x16_S16_d0 : S10000x16.ReducesTo [0] S16
  reducesTo_S16_S_d0 : S16.ReducesTo [0] S_

variable [Facts]

def fn_part1 {F : FTy → Type} [FloatOps F] (main_v17 : IVec S10000x16 1) (main_v18 : IVec S_ 1) : IVec S_ 1 :=
  let main_c_3 : IVec S_ 1 := constantI S_ 1 0#1
  let main_v19 : IVec S16 1 := (fun x v => Host.reduce IntOp.ori x v reducesTo_S10000x16_S16_d0 h_S_) main_v17 main_c_3
  let main_c_4 : IVec S_ 1 := constantI S_ 1 1#1
  let main_v20 : IVec S_ 1 := (fun x v => Host.reduce IntOp.andi x v reducesTo_S16_S_d0 h_S_) main_v19 main_c_4
  let main_v21 : IVec S_ 1 := andi main_v18 main_v20
  main_v21

def fn {F : FTy → Type} [FloatOps F] (main_arg0 : FVec F S10000x10000 .f32) (main_arg1 : IVec S10000 32) (main_arg2 : FVec F S10000x16 .f32) (main_arg3 : IVec S10000 1) : IVec S_ 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .oeq main_arg0 main_v0
  let main_c : IVec S_ 1 := constantI S_ 1 1#1
  let main_v2 : IVec S10000 1 := (fun x v => Host.reduce IntOp.andi x v reducesTo_S10000x10000_S10000_d1 h_S_) main_v1 main_c
  let main_v3 : IVec S10000 1 := noti main_arg3
  let main_v4 : IVec S10000 1 := andi main_v2 main_v3
  let main_cst_0 : FVec F S_ .f32 := constant S_ .f32 0x00000000#32
  let main_v5 : FVec F S10000 .f32 := (fun x v => Host.reduceAdd x v reducesTo_S10000x10000_S10000_d1 h_S_) main_arg0 main_cst_0
  let main_cst_1 : FVec F S_ .f32 := constant S_ .f32 0x00000000#32
  let main_v6 : FVec F S10000 .f32 := broadcastInDim S10000 ![] bcast_S_S10000 main_cst_1
  let main_v7 : IVec S10000 1 := cmpf .une main_v5 main_v6
  let main_v8 : IVec S10000 1 := ori main_v7 main_v4
  let main_v9 : IVec S10000x1 32 := broadcastInDim S10000x1 ![0] bcast_S10000_S10000x1_0 main_arg1
  let main_v10 : IVec S16 32 := iotaInDim S16 32 0
  let main_v11 : IVec S1x16 32 := broadcastInDim S1x16 ![1] bcast_S16_S1x16_1 main_v10
  let main_v12 : IVec S10000x16 32 := broadcastInDim S10000x16 ![0, 1] bcast_S10000x1_S10000x16_0_1 main_v9
  let main_v13 : IVec S10000x16 32 := broadcastInDim S10000x16 ![0, 1] bcast_S1x16_S10000x16_0_1 main_v11
  let main_v14 : IVec S10000x16 1 := cmpi .eq main_v12 main_v13
  let main_v15 : IVec S10000x1 1 := broadcastInDim S10000x1 ![0] bcast_S10000_S10000x1_0 main_arg3
  let main_v16 : IVec S10000x16 1 := broadcastInDim S10000x16 ![0, 1] bcast_S10000x1_S10000x16_0_1 main_v15
  let main_v17 : IVec S10000x16 1 := andi main_v14 main_v16
  let main_c_2 : IVec S_ 1 := constantI S_ 1 1#1
  let main_v18 : IVec S_ 1 := (fun x v => Host.reduce IntOp.andi x v reducesTo_S10000_S_d0 h_S_) main_v8 main_c_2
  fn_part1 (F := F) main_v17 main_v18
-- ==== Kernel.lean ====
abbrev S10000x10000 : Shape := ⟨2, ![10000, 10000]⟩
abbrev S10000 : Shape := ⟨1, ![10000]⟩
abbrev S10000x16 : Shape := ⟨2, ![10000, 16]⟩
abbrev S10000x1 : Shape := ⟨2, ![10000, 1]⟩
abbrev S10000x18 : Shape := ⟨2, ![10000, 18]⟩
abbrev S16x16 : Shape := ⟨2, ![16, 16]⟩
abbrev S400x10000 : Shape := ⟨2, ![400, 10000]⟩
abbrev S10000x128 : Shape := ⟨2, ![10000, 128]⟩
abbrev S16x1 : Shape := ⟨2, ![16, 1]⟩
abbrev S1x16 : Shape := ⟨2, ![1, 16]⟩
abbrev S10000x95 : Shape := ⟨2, ![10000, 95]⟩
abbrev S400x128 : Shape := ⟨2, ![400, 128]⟩
abbrev S400x16 : Shape := ⟨2, ![400, 16]⟩
abbrev S400x1 : Shape := ⟨2, ![400, 1]⟩
abbrev S16 : Shape := ⟨1, ![16]⟩
abbrev S1x16x16 : Shape := ⟨3, ![1, 16, 16]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000, .i32⟩
  | .hbm, ⟨2, _⟩ => ⟨S10000x16, .f32⟩
  | .hbm, ⟨3, _⟩ => ⟨S10000, .i1⟩
  | .hbm, ⟨4, _⟩ => ⟨S10000, .f32⟩
  | .hbm, ⟨5, _⟩ => ⟨S10000x1, .f32⟩
  | .hbm, ⟨6, _⟩ => ⟨S10000, .f32⟩
  | .hbm, ⟨7, _⟩ => ⟨S10000x1, .f32⟩
  | .hbm, ⟨8, _⟩ => ⟨S10000x18, .f32⟩
  | .hbm, ⟨9, _⟩ => ⟨S16x16, .f32⟩
  | .local _ .vmem, ⟨0, _⟩ => ⟨S400x10000, .f32⟩
  | .local _ .vmem, ⟨1, _⟩ => ⟨S400x10000, .f32⟩
  | .local _ .vmem, ⟨2, _⟩ => ⟨S10000x18, .f32⟩
  | .local _ .vmem, ⟨3, _⟩ => ⟨S16x16, .f32⟩
  | .local _ .vmem, ⟨4, _⟩ => ⟨S10000x128, .bf16⟩
  | .local _ .vmem, ⟨5, _⟩ => ⟨S16x16, .f32⟩
  | .local _ .vmem, ⟨6, _⟩ => ⟨S16x1, .f32⟩
  | .local _ .vmem, ⟨7, _⟩ => ⟨S1x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c16 : Index := 16#32
  ![v10.toNat, 16]
def k0_cond2 (i : grid0.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_20 : BitVec 32 := 0#32
  let v36 : BitVec 1 := Scalar.cmpi .ne v35 c0_i32_20
  v36

@[reducible] def k0_t1_loop : Scf.Loop 32 :=
  let c0_i32_36 : BitVec 32 := 0#32
  let c300_i32 : BitVec 32 := 300#32
  let v76 : BitVec 32 := Scalar.addi c0_i32_36 c300_i32
  let c1_i32 : BitVec 32 := 1#32
  ⟨c0_i32_36, v76, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S10000x10000 : Shape := ⟨2, ![10000, 10000]⟩
abbrev S10000 : Shape := ⟨1, ![10000]⟩
abbrev S10000x16 : Shape := ⟨2, ![10000, 16]⟩
abbrev S_ : Shape := ⟨0, ![]⟩
abbrev S10000x1 : Shape := ⟨2, ![10000, 1]⟩
abbrev S1x16 : Shape := ⟨2, ![1, 16]⟩
abbrev S17x16 : Shape := ⟨2, ![17, 16]⟩
abbrev S16x16 : Shape := ⟨2, ![16, 16]⟩
abbrev S17 : Shape := ⟨1, ![17]⟩
abbrev S16 : Shape := ⟨1, ![16]⟩
abbrev S16x1 : Shape := ⟨2, ![16, 1]⟩

abbrev nBuf : Space → Nat
  | .hbm => 112
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000, .i32⟩
  | .hbm, ⟨2, _⟩ => ⟨S10000x16, .f32⟩
  | .hbm, ⟨3, _⟩ => ⟨S10000, .i1⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S10000x10000, .f32⟩
  | .hbm, ⟨8, _⟩ => ⟨S10000x10000, .f32⟩
  | .hbm, ⟨9, _⟩ => ⟨S10000x1, .i32⟩
  | .hbm, ⟨10, _⟩ => ⟨S1x16, .i32⟩
  | .hbm, ⟨11, _⟩ => ⟨S10000x16, .i32⟩
  | .hbm, ⟨12, _⟩ => ⟨S10000x16, .i32⟩
  | .hbm, ⟨13, _⟩ => ⟨S10000x16, .i1⟩
  | .hbm, ⟨14, _⟩ => ⟨S10000x16, .f32⟩
  | .hbm, ⟨15, _⟩ => ⟨S10000, .f32⟩
  | .hbm, ⟨16, _⟩ => ⟨S10000x1, .f32⟩
  | .hbm, ⟨17, _⟩ => ⟨S_, .f32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000x1, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x16, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S10000x16, .f32⟩
  | .hbm, ⟨41, _⟩ => ⟨S10000x16, .f32⟩
  | .hbm, ⟨42, _⟩ => ⟨S_, .i32⟩
  | .hbm, ⟨43, _⟩ => ⟨S_, .i32⟩
  | .hbm, ⟨44, _⟩ => ⟨S10000, .i32⟩
  | .hbm, ⟨45, _⟩ => ⟨S10000, .i32⟩
  | .hbm, ⟨46, _⟩ => ⟨S_, .f32⟩
  | .hbm, ⟨47, _⟩ => ⟨S17x16, .f32⟩
  | .hbm, ⟨48, _⟩ => ⟨S10000x1, .i32⟩
  | .hbm, ⟨49, _⟩ => ⟨S17x16, .f32⟩
  | .hbm, ⟨50, _⟩ => ⟨S16x16, .f32⟩
  | .hbm, ⟨51, _⟩ => ⟨S_, .f32⟩
  | .hbm, ⟨52, _⟩ => ⟨S10000, .f32⟩
  | .hbm, ⟨53, _⟩ => ⟨S_, .f32⟩
  | .hbm, ⟨54, _⟩ => ⟨S17, .f32⟩
  | .hbm, ⟨55, _⟩ => ⟨S10000x1, .i32⟩
  | .hbm, ⟨56, _⟩ => ⟨S17, .f32⟩
  | .hbm, ⟨57, _⟩ => ⟨S16, .f32⟩
  | .hbm, ⟨58, _⟩ => ⟨S16x1, .f32⟩
  | .hbm, ⟨59, _⟩ => ⟨S16x16, .f32⟩
  | .hbm, ⟨60, _⟩ => ⟨S16x16, .f32⟩
  | .hbm, ⟨61, _⟩ => ⟨S16x16, .i1⟩
  | .hbm, ⟨62, _⟩ => ⟨S16x16, .f32⟩
  | .hbm, ⟨63, _⟩ => ⟨S16x16, .f32⟩
  | .hbm, ⟨64, _⟩ => ⟨S16x16, .i1⟩
  | .hbm, ⟨65, _⟩ => ⟨S_, .f32⟩
  | .hbm, ⟨66, _⟩ => ⟨S_, .f32⟩
  | .hbm, ⟨67, _⟩ => ⟨S16x16, .f32⟩
  | .hbm, ⟨68, _⟩ => ⟨S16x16, .f32⟩
  | .hbm, ⟨69, _⟩ => ⟨S16x16, .f32⟩
  | .hbm, ⟨70, _⟩ => ⟨S_, .f32⟩
  | .hbm, ⟨71, _⟩ => ⟨S16, .f32⟩
  | .hbm, ⟨72, _⟩ => ⟨S16x1, .f32⟩
  | .hbm, ⟨73, _⟩ => ⟨S_, .f32⟩
  | .hbm, ⟨74, _⟩ => ⟨S16, .f32⟩
  | .hbm, ⟨75, _⟩ => ⟨S16x1, .f32⟩
  | .hbm, ⟨76, _⟩ => ⟨S_, .f32⟩
  | .hbm, ⟨77, _⟩ => ⟨S16x1, .f32⟩
  | .hbm, ⟨78, _⟩ => ⟨S16x1, .f32⟩
  | .hbm, ⟨79, _⟩ => ⟨S_, .f32⟩
  | .hbm, ⟨80, _⟩ => ⟨S16x1, .f32⟩
  | .hbm, ⟨81, _⟩ => ⟨S16x1, .f32⟩
  | .hbm, ⟨82, _⟩ => ⟨S16x1, .f32⟩
  | .hbm, ⟨83, _⟩ => ⟨S16x16, .f32⟩
  | .hbm, ⟨84, _⟩ => ⟨S16x16, .f32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S16x16, .f32⟩
  | .hbm, ⟨89, _⟩ => ⟨S_, .i1⟩
  | .hbm, ⟨90, _⟩ => ⟨S_, .i32⟩
  | .hbm, ⟨91, _⟩ => ⟨S_, .i1⟩
  | .hbm, ⟨92, _⟩ => ⟨S_, .f32⟩
  | .hbm, ⟨93, _⟩ => ⟨S16, .f32⟩
  | .hbm, ⟨94, _⟩ => ⟨S1x16, .f32⟩
  | .hbm, ⟨95, _⟩ => ⟨S16x16, .f32⟩
  | .hbm, ⟨96, _⟩ => ⟨S16x16, .f32⟩
  | .hbm, ⟨97, _⟩ => ⟨S_, .f32⟩
  | .hbm, ⟨98, _⟩ => ⟨S16, .f32⟩
  | .hbm, ⟨99, _⟩ => ⟨S16x1, .f32⟩
  | .hbm, ⟨100, _⟩ => ⟨S16x16, .f32⟩
  | .hbm, ⟨101, _⟩ => ⟨S16x16, .f32⟩
  | .hbm, ⟨102, _⟩ => ⟨S16x16, .f32⟩
  | .hbm, ⟨103, _⟩ => ⟨S16x16, .f32⟩
  | .hbm, ⟨104, _⟩ => ⟨S_, .f32⟩
  | .hbm, ⟨105, _⟩ => ⟨S_, .f32⟩
  | .hbm, ⟨106, _⟩ => ⟨S16x16, .f32⟩
  | .hbm, ⟨107, _⟩ => ⟨S_, .f32⟩
  | .hbm, ⟨108, _⟩ => ⟨S_, .i1⟩
  | .hbm, ⟨109, _⟩ => ⟨S_, .i1⟩
  | .hbm, ⟨110, _⟩ => ⟨S_, .i32⟩
  | .hbm, ⟨111, _⟩ => ⟨S_, .i32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_call3_v0 : Ref sig .tc := ⟨.hbm, 66, rfl⟩
abbrev main_call3_v1 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call4_v0 : Ref sig .tc := ⟨.hbm, 83, rfl⟩
abbrev main_v56 : Ref sig .tc := ⟨.hbm, 84, rfl⟩
abbrev main_c_12 : Ref sig .tc := ⟨.hbm, 85, rfl⟩
abbrev main_c_13 : Ref sig .tc := ⟨.hbm, 86, rfl⟩
abbrev main_v57_0 : Ref sig .tc := ⟨.hbm, 87, rfl⟩
abbrev main_v57_1 : Ref sig .tc := ⟨.hbm, 88, rfl⟩
abbrev main_v57_2 : Ref sig .tc := ⟨.hbm, 89, rfl⟩
abbrev main_while0c_c_16 : Ref sig .tc := ⟨.hbm, 90, rfl⟩
abbrev main_while0c_v58 : Ref sig .tc := ⟨.hbm, 91, rfl⟩
abbrev main_while0b_cst_16 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_cst_17 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_cst_18 : Ref sig .tc := ⟨.hbm, 104, rfl⟩
abbrev main_while0b_v68 : Ref sig .tc := ⟨.hbm, 105, rfl⟩
abbrev main_while0b_v69 : Ref sig .tc := ⟨.hbm, 106, rfl⟩
abbrev main_while0b_cst_19 : Ref sig .tc := ⟨.hbm, 107, rfl⟩
abbrev main_while0b_v70 : Ref sig .tc := ⟨.hbm, 108, rfl⟩
abbrev main_while0b_v71 : Ref sig .tc := ⟨.hbm, 109, rfl⟩
abbrev main_while0b_c_20 : Ref sig .tc := ⟨.hbm, 110, rfl⟩
abbrev main_while0b_v72 : Ref sig .tc := ⟨.hbm, 111, rfl⟩

abbrev nD : Nat := 1
abbrev τ : Topo := Topo.v7x

variable {F : FTy → Type} [FloatOps F]

abbrev main_while0_count : Scf.Loop 32 := ⟨0#32, 300#32, 1#32⟩
-- ==== ReferenceByCountIdeal.lean ====
abbrev S10000x10000 : Shape := ⟨2, ![10000, 10000]⟩
abbrev S10000 : Shape := ⟨1, ![10000]⟩
abbrev S10000x16 : Shape := ⟨2, ![10000, 16]⟩
abbrev S_ : Shape := ⟨0, ![]⟩
abbrev S10000x1 : Shape := ⟨2, ![10000, 1]⟩
abbrev S1x16 : Shape := ⟨2, ![1, 16]⟩
abbrev S17x16 : Shape := ⟨2, ![17, 16]⟩
abbrev S16x16 : Shape := ⟨2, ![16, 16]⟩
abbrev S17 : Shape := ⟨1, ![17]⟩
abbrev S16 : Shape := ⟨1, ![16]⟩
abbrev S16x1 : Shape := ⟨2, ![16, 1]⟩

abbrev nBuf : Space → Nat
  | .hbm => 115
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000, .i32⟩
  | .hbm, ⟨2, _⟩ => ⟨S10000x16, .f32⟩
  | .hbm, ⟨3, _⟩ => ⟨S10000, .i1⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S10000x10000, .f32⟩
  | .hbm, ⟨8, _⟩ => ⟨S10000x10000, .f32⟩
  | .hbm, ⟨9, _⟩ => ⟨S10000x1, .i32⟩
  | .hbm, ⟨10, _⟩ => ⟨S1x16, .i32⟩
  | .hbm, ⟨11, _⟩ => ⟨S10000x16, .i32⟩
  | .hbm, ⟨12, _⟩ => ⟨S10000x16, .i32⟩
  | .hbm, ⟨13, _⟩ => ⟨S10000x16, .i1⟩
  | .hbm, ⟨14, _⟩ => ⟨S10000x16, .f32⟩
  | .hbm, ⟨15, _⟩ => ⟨S10000, .f32⟩
  | .hbm, ⟨16, _⟩ => ⟨S10000x1, .f32⟩
  | .hbm, ⟨17, _⟩ => ⟨S_, .f32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000x1, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x16, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S_, .i32⟩
  | .hbm, ⟨41, _⟩ => ⟨S_, .i32⟩
  | .hbm, ⟨42, _⟩ => ⟨S10000, .i32⟩
  | .hbm, ⟨43, _⟩ => ⟨S10000, .i32⟩
  | .hbm, ⟨44, _⟩ => ⟨S_, .f32⟩
  | .hbm, ⟨45, _⟩ => ⟨S17x16, .f32⟩
  | .hbm, ⟨46, _⟩ => ⟨S10000x1, .i32⟩
  | .hbm, ⟨47, _⟩ => ⟨S17x16, .f32⟩
  | .hbm, ⟨48, _⟩ => ⟨S16x16, .f32⟩
  | .hbm, ⟨49, _⟩ => ⟨S_, .f32⟩
  | .hbm, ⟨50, _⟩ => ⟨S10000, .f32⟩
  | .hbm, ⟨51, _⟩ => ⟨S_, .f32⟩
  | .hbm, ⟨52, _⟩ => ⟨S17, .f32⟩
  | .hbm, ⟨53, _⟩ => ⟨S10000x1, .i32⟩
  | .hbm, ⟨54, _⟩ => ⟨S17, .f32⟩
  | .hbm, ⟨55, _⟩ => ⟨S16, .f32⟩
  | .hbm, ⟨56, _⟩ => ⟨S16x1, .f32⟩
  | .hbm, ⟨57, _⟩ => ⟨S16x16, .f32⟩
  | .hbm, ⟨58, _⟩ => ⟨S16x16, .f32⟩
  | .hbm, ⟨59, _⟩ => ⟨S_, .f32⟩
  | .hbm, ⟨60, _⟩ => ⟨S16, .f32⟩
  | .hbm, ⟨61, _⟩ => ⟨S16, .i1⟩
  | .hbm, ⟨62, _⟩ => ⟨S16x1, .i1⟩
  | .hbm, ⟨63, _⟩ => ⟨S16x16, .i1⟩
  | .hbm, ⟨64, _⟩ => ⟨S16x16, .f32⟩
  | .hbm, ⟨65, _⟩ => ⟨S16x16, .f32⟩
  | .hbm, ⟨66, _⟩ => ⟨S16x16, .i1⟩
  | .hbm, ⟨67, _⟩ => ⟨S16x16, .i1⟩
  | .hbm, ⟨68, _⟩ => ⟨S_, .f32⟩
  | .hbm, ⟨69, _⟩ => ⟨S_, .f32⟩
  | .hbm, ⟨70, _⟩ => ⟨S16x16, .f32⟩
  | .hbm, ⟨71, _⟩ => ⟨S16x16, .f32⟩
  | .hbm, ⟨72, _⟩ => ⟨S16x16, .f32⟩
  | .hbm, ⟨73, _⟩ => ⟨S_, .f32⟩
  | .hbm, ⟨74, _⟩ => ⟨S16, .f32⟩
  | .hbm, ⟨75, _⟩ => ⟨S16x1, .f32⟩
  | .hbm, ⟨76, _⟩ => ⟨S_, .f32⟩
  | .hbm, ⟨77, _⟩ => ⟨S16, .f32⟩
  | .hbm, ⟨78, _⟩ => ⟨S16x1, .f32⟩
  | .hbm, ⟨79, _⟩ => ⟨S_, .f32⟩
  | .hbm, ⟨80, _⟩ => ⟨S16x1, .f32⟩
  | .hbm, ⟨81, _⟩ => ⟨S16x1, .f32⟩
  | .hbm, ⟨82, _⟩ => ⟨S_, .f32⟩
  | .hbm, ⟨83, _⟩ => ⟨S16x1, .f32⟩
  | .hbm, ⟨84, _⟩ => ⟨S16x1, .f32⟩
  | .hbm, ⟨85, _⟩ => ⟨S16x1, .f32⟩
  | .hbm, ⟨86, _⟩ => ⟨S16x16, .f32⟩
  | .hbm, ⟨87, _⟩ => ⟨S16x16, .f32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S16x16, .f32⟩
  | .hbm, ⟨92, _⟩ => ⟨S_, .i1⟩
  | .hbm, ⟨93, _⟩ => ⟨S_, .i32⟩
  | .hbm, ⟨94, _⟩ => ⟨S_, .i1⟩
  | .hbm, ⟨95, _⟩ => ⟨S_, .f32⟩
  | .hbm, ⟨96, _⟩ => ⟨S16, .f32⟩
  | .hbm, ⟨97, _⟩ => ⟨S1x16, .f32⟩
  | .hbm, ⟨98, _⟩ => ⟨S16x16, .f32⟩
  | .hbm, ⟨99, _⟩ => ⟨S16x16, .f32⟩
  | .hbm, ⟨100, _⟩ => ⟨S_, .f32⟩
  | .hbm, ⟨101, _⟩ => ⟨S16, .f32⟩
  | .hbm, ⟨102, _⟩ => ⟨S16x1, .f32⟩
  | .hbm, ⟨103, _⟩ => ⟨S16x16, .f32⟩
  | .hbm, ⟨104, _⟩ => ⟨S16x16, .f32⟩
  | .hbm, ⟨105, _⟩ => ⟨S16x16, .f32⟩
  | .hbm, ⟨106, _⟩ => ⟨S16x16, .f32⟩
  | .hbm, ⟨107, _⟩ => ⟨S_, .f32⟩
  | .hbm, ⟨108, _⟩ => ⟨S_, .f32⟩
  | .hbm, ⟨109, _⟩ => ⟨S16x16, .f32⟩
  | .hbm, ⟨110, _⟩ => ⟨S_, .f32⟩
  | .hbm, ⟨111, _⟩ => ⟨S_, .i1⟩
  | .hbm, ⟨112, _⟩ => ⟨S_, .i1⟩
  | .hbm, ⟨113, _⟩ => ⟨S_, .i32⟩
  | .hbm, ⟨114, _⟩ => ⟨S_, .i32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call1_v0 : Ref sig .tc := ⟨.hbm, 41, rfl⟩
abbrev main_call1_v1 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_call3_v0 : Ref sig .tc := ⟨.hbm, 69, rfl⟩
abbrev main_call3_v1 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call4_v0 : Ref sig .tc := ⟨.hbm, 86, rfl⟩
abbrev main_v58 : Ref sig .tc := ⟨.hbm, 87, rfl⟩
abbrev main_c_13 : Ref sig .tc := ⟨.hbm, 88, rfl⟩
abbrev main_c_14 : Ref sig .tc := ⟨.hbm, 89, rfl⟩
abbrev main_v59_0 : Ref sig .tc := ⟨.hbm, 90, rfl⟩
abbrev main_v59_1 : Ref sig .tc := ⟨.hbm, 91, rfl⟩
abbrev main_v59_2 : Ref sig .tc := ⟨.hbm, 92, rfl⟩
abbrev main_while0c_c_17 : Ref sig .tc := ⟨.hbm, 93, rfl⟩
abbrev main_while0c_v60 : Ref sig .tc := ⟨.hbm, 94, rfl⟩
abbrev main_while0b_cst_17 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_cst_18 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_cst_19 : Ref sig .tc := ⟨.hbm, 107, rfl⟩
abbrev main_while0b_v70 : Ref sig .tc := ⟨.hbm, 108, rfl⟩
abbrev main_while0b_v71 : Ref sig .tc := ⟨.hbm, 109, rfl⟩
abbrev main_while0b_cst_20 : Ref sig .tc := ⟨.hbm, 110, rfl⟩
abbrev main_while0b_v72 : Ref sig .tc := ⟨.hbm, 111, rfl⟩
abbrev main_while0b_v73 : Ref sig .tc := ⟨.hbm, 112, rfl⟩
abbrev main_while0b_c_21 : Ref sig .tc := ⟨.hbm, 113, rfl⟩
abbrev main_while0b_v74 : Ref sig .tc := ⟨.hbm, 114, rfl⟩

abbrev nD : Nat := 1
abbrev τ : Topo := Topo.v7x

variable {F : FTy → Type} [FloatOps F]

abbrev main_while0_count : Scf.Loop 32 := ⟨0#32, 300#32, 1#32⟩
-- ==== Proof.Model.lean ====
/-
  What both programs compute, written over functions of node and class numbers: the features, the per-class sums and
  counts, the repair of the empty classes, and the iterated normalisation. The programs' modules show that each program
  computes these functions.
-/
module

public import Idealize.ShloMosaic.Lib.Pointwise
public import Idealize.ShloMosaic.Lib.Pipeline.ValueKit

@[expose] public section

noncomputable section

namespace Cert.Model

open Idealize.ShloMosaic

/-! ## Arithmetic of the extended reals -/

/-- Division by a number other than zero is multiplication by its inverse. -/
theorem div_eq_mul_inv {x r : EReal} (h : r ≠ 0) : Ideal.div x r = x * r⁻¹ := by
  unfold Ideal.div
  rw [if_neg h]

/-- A bit converted to an extended real is one or zero. -/
theorem uitofp_bit (b : BitVec 1) : FloatOps.uitofp (F := Ideal) .f32 b = if b = 1#1 then 1 else 0 := by
  rcases BitVec.eq_zero_or_eq_one b with rfl | rfl
  · show (((0 : ℕ) : ℝ) : EReal) = 0
    simp
  · show (((1 : ℕ) : ℝ) : EReal) = 1
    simp

/-- The pattern the maximum starts from is the least extended real. -/
theorem bot_bits : Ideal.ofBits .f32 4286578688#32 = ⊥ := by
  simp [Ideal.ofBits, Ideal.ieee]

/-- The conjunction of two truth values as bits. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp only [hp, hq, decide_true, decide_false, and_self, and_true, true_and, and_false, false_and] <;> rfl

/-- A selection by a truth value. -/
theorem select_ofBool {α : Type} (p : Prop) [Decidable p] (x y : α) :
    Scalar.select (BitVec.ofBool (decide p)) x y = if p then x else y := by
  by_cases hp : p <;> simp only [hp, decide_true, decide_false, if_true, if_false] <;> rfl

/-! ## Features, sums and counts -/

variable (a : Fin 10000 → Fin 10000 → EReal) (y : Fin 10000 → BitVec 32) (Z : Fin 10000 → Fin 16 → EReal)
  (k : Fin 10000 → BitVec 1)

/-- Node `n` is labelled, and its label is class `c`. -/
abbrev Labelled (n : Fin 10000) (c : Fin 16) : Prop := k n = 1#1 ∧ y n = BitVec.ofNat 32 c.val

/-- The softmax of node `n`'s initial belief at class `d`. -/
def soft (n : Fin 10000) (d : Fin 16) : EReal :=
  Ideal.div (Ideal.exp (Z n d - Finset.fold max ⊥ (fun x => Z n x) Finset.univ))
    (∑ e, Ideal.exp (Z n e - Finset.fold max ⊥ (fun x => Z n x) Finset.univ))

/-- The feature of node `n` at class `d`: the indicator of its label if it is labelled, its softmax if not. -/
def feat (n : Fin 10000) (d : Fin 16) : EReal :=
  if k n = 1#1 then (if y n = BitVec.ofNat 32 d.val then 1 else 0) else soft Z n d

/-- The softmax entry scaled by one minus the flag, plus the indicator of being labelled with `d`, is the feature. -/
theorem feat_of_flag (n : Fin 10000) (d : Fin 16) :
    soft Z n d * (1 - (if k n = 1#1 then 1 else 0)) + (if Labelled y k n d then 1 else 0) = feat y Z k n d := by
  unfold feat
  by_cases h : k n = 1#1
  · simp only [Labelled, h, if_true, true_and]
    rw [EReal.sub_self (by decide) (by decide), mul_zero, zero_add]
  · simp only [Labelled, h, if_false, false_and]
    rw [sub_zero, mul_one, add_zero]

/-- The row-normalised aggregation of the features at node `n`. -/
def node (n : Fin 10000) (d : Fin 16) : EReal := ∑ j, Ideal.div (a n j) (∑ l, a n l) * feat y Z k j d

/-- The sum of `node` over the nodes labelled with class `c`. -/
def sums (c d : Fin 16) : EReal := ∑ n, if Labelled y k n c then node a y Z k n d else 0

/-- The number of nodes labelled with class `c`. -/
def count (c : Fin 16) : EReal := ∑ n, if Labelled y k n c then 1 else 0

/-- A count is a natural number. -/
theorem count_nat (c : Fin 16) :
    count y k c = ((Finset.univ.filter fun n => Labelled y k n c).card : EReal) := by
  unfold count
  rw [Finset.sum_ite, Finset.sum_const_zero, add_zero, Finset.sum_const, nsmul_one]

/-- A count other than zero is at least one. -/
theorem max_count_one {c : Fin 16} (h : count y k c ≠ 0) : max (count y k c) 1 = count y k c := by
  rw [count_nat] at h ⊢
  refine max_eq_left ?_
  have : (Finset.univ.filter fun n => Labelled y k n c).card ≠ 0 := fun h' => h (by rw [h']; exact Nat.cast_zero)
  exact_mod_cast Nat.one_le_iff_ne_zero.mpr this

/-! ## The repair of the empty classes -/

/-- The mean over the class `c`, at class `d`. -/
def mean (S : Fin 16 → Fin 16 → EReal) (q : Fin 16 → EReal) (c d : Fin 16) : EReal := Ideal.div (S c d) (q c)

/-- The means with the rows of the empty classes (`q c = 0`) read off the columns, and zero where both are empty. -/
def filled (S : Fin 16 → Fin 16 → EReal) (q : Fin 16 → EReal) (c d : Fin 16) : EReal :=
  if q c = 0 then (if q d = 0 then 0 else mean S q d c) else mean S q c d

/-- What a row lacks to one, shared between its entries whose row and column are both empty. -/
def miss (S : Fin 16 → Fin 16 → EReal) (q : Fin 16 → EReal) (c : Fin 16) : EReal :=
  Ideal.div (1 - ∑ d, filled S q c d) (max (∑ d, if q c = 0 ∧ q d = 0 then 1 else 0) 1)

/-- The matrix the normalisation starts from. -/
def start (S : Fin 16 → Fin 16 → EReal) (q : Fin 16 → EReal) (c d : Fin 16) : EReal :=
  if q c = 0 ∧ q d = 0 then miss S q c else filled S q c d

/-- Without empty classes nothing is repaired. -/
theorem start_of_pos {S : Fin 16 → Fin 16 → EReal} {q : Fin 16 → EReal} (h : ∀ c, q c ≠ 0) (c d : Fin 16) :
    start S q c d = mean S q c d := by
  unfold start filled
  rw [if_neg fun h' => h c h'.1, if_neg (h c)]

/-! ## The iterated normalisation -/

/-- The class-by-class matrices. -/
abbrev Mat : Type := FVec Ideal (⟨2, ![16, 16]⟩ : Shape) .f32

/-- One normalisation: every column divided by its sum, then every row by its sum. -/
def norm (H : Mat) : Mat := fun i =>
  Ideal.div (Ideal.div (H i) (∑ e : Fin 16, H (ix2 e (i 1))))
    (∑ f : Fin 16, Ideal.div (H (ix2 (i 0) f)) (∑ e : Fin 16, H (ix2 e f)))

/-- How far one normalisation moves a matrix: the sum of the absolute differences. -/
def moved (H : Mat) : EReal := ∑ c : Fin 16, ∑ d : Fin 16, FloatOps.absf (F := Ideal) (φ := .f32) (norm H (ix2 c d) - H (ix2 c d))

/-- One trip of the loop on the matrix and the flag that freezes it. -/
def trip (p : Mat × BitVec 1) : Mat × BitVec 1 :=
  (if p.2 = 1#1 then p.1 else norm p.1,
    IntOp.ori p.2 (FloatOps.cmpf (F := Ideal) (φ := .f32) .olt (moved p.1) (Ideal.ofBits .f32 730643660#32)))

/-- The matrix after the loop's 300 trips. -/
def result (H : Mat) : Mat := (trip^[300] (H, 0#1)).1

end Cert.Model

end
-- ==== Proof.KernelRead.lean ====
/-
  What the kernel reads and keeps: its packed operand, its blocks of the adjacency matrix, and the features and
  indicators it packs into its scratch, read at each index in the model's terms.
-/
module

public import proofs.«01_k».proof.Proof.Gen.KernelIdeal.Value
public import proofs.«01_k».proof.Proof.Model
public import Idealize.ShloMosaic.Lib.Pointwise
public import Idealize.ShloMosaic.Lib.Pipeline.ValueKit
public import Idealize.ShloMosaic.Lib.StableHlo.RunClose

@[expose] public section

set_option maxRecDepth 16384

noncomputable section
namespace Cert.KernelIdeal.Fold

open Idealize.ShloMosaic Idealize.ShloMosaic.TcCoe
open Idealize.SL.Sem
open Cert.KernelIdeal Cert.KernelIdeal.Gen Cert.KernelIdeal.Value Cert.Model

variable (m : (ℓ : Loc nD τ sig) → Buf (Elt Ideal) ℓ)

/-! ## Integers as extended reals -/

/-- Two words converted to extended reals are equal exactly when the words are. -/
theorem sitofp_inj (x y : BitVec 32) :
    (FloatOps.sitofp (F := Ideal) .f32 x = FloatOps.sitofp (F := Ideal) .f32 y) ↔ x = y := by
  show (((x.toInt : ℝ) : EReal) = ((y.toInt : ℝ) : EReal)) ↔ x = y
  rw [EReal.coe_eq_coe_iff, Int.cast_inj]
  exact BitVec.toInt_inj

/-- A truth value widened to a word and converted is one or zero. -/
theorem sitofp_ofBool (b : Bool) :
    FloatOps.sitofp (F := Ideal) .f32 (BitVec.setWidth 32 (BitVec.ofBool b)) = if b = true then 1 else 0 := by
  cases b
  · show (((0 : ℤ) : ℝ) : EReal) = 0
    simp
  · show (((1 : ℤ) : ℝ) : EReal) = 1
    simp

/-! ## The arguments as functions -/

/-- The adjacency matrix. -/
def aOf (c : Dev nD) (n j : Fin 10000) : EReal := (m ((c : Thread nD τ).loc main_arg0) : FVec Ideal S10000x10000 .f32) (ix2 n j)
/-- The labels. -/
def yOf (c : Dev nD) (n : Fin 10000) : BitVec 32 := (m ((c : Thread nD τ).loc main_arg1) : IVec S10000 32) (ix1 n)
/-- The initial beliefs. -/
def zOf (c : Dev nD) (n : Fin 10000) (d : Fin 16) : EReal := (m ((c : Thread nD τ).loc main_arg2) : FVec Ideal S10000x16 .f32) (ix2 n d)
/-- Which nodes are labelled. -/
def kOf (c : Dev nD) (n : Fin 10000) : BitVec 1 := (m ((c : Thread nD τ).loc main_arg3) : IVec S10000 1) (ix1 n)

/-! ## The packed operand and the scratch the first point builds from it -/

/-- The packed operand: beliefs, labels and flags side by side. -/
def ym (c : Dev nD) : FVec Ideal S10000x18 .f32 := V m c main_v4

/-- The packed operand is the concatenation of the three arguments, converted. -/
theorem ym_eq (c : Dev nD) : ym m c = concatenate S10000x18 1
    [⟨S10000x16, (m ((c : Thread nD τ).loc main_arg2) : FVec Ideal S10000x16 .f32)⟩,
     ⟨S10000x1, broadcastInDim S10000x1 ![0] bcast_S10000_S10000x1_0 (sitofp (F := Ideal) .f32 (m ((c : Thread nD τ).loc main_arg1) : IVec S10000 32))⟩,
     ⟨S10000x1, broadcastInDim S10000x1 ![0] bcast_S10000_S10000x1_0 (uitofp (F := Ideal) .f32 (m ((c : Thread nD τ).loc main_arg3) : IVec S10000 1))⟩]
    concatenates_S10000x16_S10000x1_S10000x1_S10000x18_d1 := by
  unfold ym V
  dsimp only [hostOps0]
  after_results_entrywise (rounds := 1) []

/-- Columns 0 to 15 of the packed operand are the beliefs. -/
theorem ym_z (c : Dev nD) (n : Fin 10000) (d : Fin 16) : ym m c (ix2 n ⟨d.val, by omega⟩) = zOf m c n d := by
  rw [ym_eq]
  pointwise [zOf]

/-- Column 16 of the packed operand is the label. -/
theorem ym_y (c : Dev nD) (n : Fin 10000) : ym m c (ix2 n 16) = FloatOps.sitofp (F := Ideal) .f32 (yOf m c n) := by
  rw [ym_eq]
  pointwise [yOf]

/-- Column 17 of the packed operand is the flag. -/
theorem ym_k (c : Dev nD) (n : Fin 10000) : ym m c (ix2 n 17) = FloatOps.uitofp (F := Ideal) .f32 (kOf m c n) := by
  rw [ym_eq]
  pointwise [kOf]

/-- The index maps of the two input windows. -/
theorem idx : ∀ t : Fin cfg0.N, win0_0.index t = ![t.val, 0] ∧ win0_1.index t = ![0, 0] :=
  (by decide +kernel : ∀ t : Fin grid0.N, win0_0.index t = ![t.val, 0] ∧ win0_1.index t = ![0, 0])

/-- Where the labels of point `t`'s rows start in the scratch. -/
theorem off_eq : ∀ t : Fin cfg0.N, k0_off1 (grid0.coords t) = ![400 * t.val, 16] :=
  (by decide +kernel : ∀ t : Fin grid0.N, k0_off1 (grid0.coords t) = ![400 * t.val, 16])

/-- Every point's block of the packed operand is the operand. -/
theorem iblk1 (c : Dev nD) (t : Fin cfg0.N) : iblk m c 1 t = ym m c := by
  blk_ext! [iblk, ym, idx t]

/-- Point `t`'s block of the adjacency matrix is its rows `400 t` to `400 t + 399`. -/
theorem iblk0 (c : Dev nD) (t : Fin cfg0.N) (i : Fin 400) (j : Fin 10000) (h : t.val * 400 + i.val < 10000) :
    (iblk m c 0 t : FVec Ideal S400x10000 .f32) (ix2 i j) = aOf m c ⟨t.val * 400 + i.val, h⟩ j := by
  unfold aOf
  blk_ext [iblk, V, idx t]

/-- The scratch of features, indicators and ones, as the first point stores it. -/
def xw (c : Dev nD) : FVec Ideal S10000x128 .bf16 :=
  k0_pay2 (F := Ideal)
    (View.ld (Val := Elt Ideal) (e' := .f32) (ym m c) (Rect.unit (s := S10000x18) ![0, 0] ![10000, 16] inb_S10000x18_S10000x16_0_0))
    (View.ld (Val := Elt Ideal) (e' := .f32) (ym m c) (Rect.unit (s := S10000x18) ![0, 16] ![10000, 1] inb_S10000x18_S10000x1_0_16))
    (View.ld (Val := Elt Ideal) (e' := .f32) (ym m c) (Rect.unit (s := S10000x18) ![0, 17] ![10000, 1] inb_S10000x18_S10000x1_0_17))

/-- The kernel's load of the beliefs, read. -/
theorem ld_z (X : FVec Ideal S10000x18 .f32) (n : Fin 10000) (d : Fin 16) :
    (View.ld (Val := Elt Ideal) (e' := .f32) X (Rect.unit (s := S10000x18) ![0, 0] ![10000, 16] inb_S10000x18_S10000x16_0_0) : FVec Ideal S10000x16 .f32) (ix2 n d)
      = X (ix2 n ⟨d.val, by omega⟩) := by
  refine View.ld_unit_apply_of _ _ _ _ _ _ fun a => ?_
  fin_cases a
  · show n.val = 0 + n.val
    omega
  · show d.val = 0 + d.val
    omega

/-- The kernel's load of the labels, read. -/
theorem ld_y (X : FVec Ideal S10000x18 .f32) (n : Fin 10000) :
    (View.ld (Val := Elt Ideal) (e' := .f32) X (Rect.unit (s := S10000x18) ![0, 16] ![10000, 1] inb_S10000x18_S10000x1_0_16) : FVec Ideal S10000x1 .f32) (ix2 n 0)
      = X (ix2 n 16) := by
  refine View.ld_unit_apply_of _ _ _ _ _ _ fun a => ?_
  fin_cases a
  · show n.val = 0 + n.val
    omega
  · rfl

/-- The kernel's load of the flags, read. -/
theorem ld_k (X : FVec Ideal S10000x18 .f32) (n : Fin 10000) :
    (View.ld (Val := Elt Ideal) (e' := .f32) X (Rect.unit (s := S10000x18) ![0, 17] ![10000, 1] inb_S10000x18_S10000x1_0_17) : FVec Ideal S10000x1 .f32) (ix2 n 0)
      = X (ix2 n 17) := by
  refine View.ld_unit_apply_of _ _ _ _ _ _ fun a => ?_
  fin_cases a
  · show n.val = 0 + n.val
    omega
  · rfl

/-- Rows `400 t + i`, columns 16 to 31 of the scratch, as point `t` loads them. -/
theorem ld_w (X : FVec Ideal S10000x128 .bf16) (t : Fin cfg0.N) (h) (i : Fin 400) (d : Fin 16) (hn : t.val * 400 + i.val < 10000) :
    (View.ld (Val := Elt Ideal) (e' := .bf16) X (Rect.unit (s := S10000x128) (k0_off1 (grid0.coords t)) ![400, 16] h) : FVec Ideal S400x16 .bf16) (ix2 i d)
      = X (ix2 ⟨t.val * 400 + i.val, hn⟩ ⟨16 + d.val, by omega⟩) := by
  refine View.ld_unit_apply_of _ _ _ _ _ _ fun a => ?_
  refine Eq.trans ?_ (congrArg (fun f : Fin 2 → ℕ => f a + (ix2 i d a).val) (off_eq t)).symm
  fin_cases a
  · show t.val * 400 + i.val = 400 * t.val + i.val
    omega
  · rfl

/-! ## The scratch in the model's terms -/

/-- The kernel's indicator of class `j` times the flag is the indicator of being labelled with `j`. -/
theorem label_mul (c : Dev nD) (n : Fin 10000) (j : ℕ) :
    (FloatOps.sitofp (F := Ideal) .f32 (BitVec.setWidth 32 (BitVec.ofBool (decide
        (FloatOps.sitofp (F := Ideal) .f32 (BitVec.ofNat 32 j) = FloatOps.sitofp (F := Ideal) .f32 (yOf m c n))))) : EReal)
      * FloatOps.uitofp (F := Ideal) .f32 (kOf m c n)
      = if kOf m c n = 1#1 ∧ yOf m c n = BitVec.ofNat 32 j then 1 else 0 := by
  rw [sitofp_ofBool, uitofp_bit]
  simp only [decide_eq_true_eq, sitofp_inj, eq_comm (a := BitVec.ofNat 32 j)]
  by_cases h : kOf m c n = 1#1 <;> by_cases h' : yOf m c n = BitVec.ofNat 32 j <;> simp [h, h']

/-- Columns 16 to 31 of the scratch are the indicators of the labels. -/
theorem xw_w (c : Dev nD) (n : Fin 10000) (d : Fin 16) :
    xw m c (ix2 n ⟨16 + d.val, by omega⟩) = if Labelled (yOf m c) (kOf m c) n d then 1 else 0 := by
  refine Eq.trans ?_ (label_mul m c n d.val)
  rw [← ym_y, ← ym_k]
  unfold xw
  pointwise [k0_pay2]

/-- Column 32 of the scratch is one. -/
theorem xw_one (c : Dev nD) (n : Fin 10000) : xw m c (ix2 n 32) = 1 := by
  unfold xw
  pointwise [k0_pay2]

/-- Columns 0 to 15 of the scratch are the features. -/
theorem xw_x (c : Dev nD) (n : Fin 10000) (d : Fin 16) :
    xw m c (ix2 n ⟨d.val, by omega⟩) = feat (yOf m c) (zOf m c) (kOf m c) n d := by
  rw [← feat_of_flag, ← uitofp_bit, ← label_mul, ← ym_y, ← ym_k]
  unfold soft
  simp only [← ym_z, ← bot_bits]
  unfold xw
  pointwise [k0_pay2]

end Cert.KernelIdeal.Fold
end
-- ==== Proof.KernelFold.lean ====
/-
  The kernel's grid: what each point does to the accumulators, and what they hold after every point — the sums and counts
  over the nodes of the points so far.
-/
module

public import proofs.«01_k».proof.Proof.KernelRead
public import Idealize.ShloMosaic.Lib.Pipeline.ReadBack

@[expose] public section

set_option maxRecDepth 16384

noncomputable section
namespace Cert.KernelIdeal.Fold

open Idealize.ShloMosaic Idealize.ShloMosaic.TcCoe
open Idealize.SL.Sem
open Cert.KernelIdeal Cert.KernelIdeal.Gen Cert.KernelIdeal.Value Cert.Model

variable (m : (ℓ : Loc nD τ sig) → Buf (Elt Ideal) ℓ)

/-- A point's rows lie inside the scratch. -/
theorem inb (t : Fin cfg0.N) : ∀ a, k0_off1 (grid0.coords t) a + ![400, 16] a ≤ S10000x128.size a := by
  intro a
  have ht : t.val < 25 := lt_of_lt_of_eq t.isLt N_0
  refine Eq.trans_le (congrArg (fun f : Fin 2 → ℕ => f a + ![400, 16] a) (off_eq t)) ?_
  fin_cases a
  · show 400 * t.val + 400 ≤ 10000
    omega
  · show 16 + 16 ≤ 128
    omega

/-- What a point loads of the scratch: its rows of the label indicators. -/
def wAt (t : Fin cfg0.N) (X : FVec Ideal S10000x128 .bf16) : FVec Ideal S400x16 .bf16 :=
  View.ld (Val := Elt Ideal) (e' := .bf16) X (Rect.unit (s := S10000x128) (k0_off1 (grid0.coords t)) ![400, 16] (inb t))

/-- The four scratch buffers. -/
abbrev St : Type := FVec Ideal S10000x128 .bf16 × FVec Ideal S16x16 .f32 × FVec Ideal S16x1 .f32 × FVec Ideal S1x16 .f32

/-- A point's update of the accumulators over the scratch `X`. -/
def step (c : Dev nD) (t : Fin cfg0.N) (p : St) : St :=
  (p.1, k0_pay11 (F := Ideal) (iblk m c 0 t) p.1 (wAt t p.1) p.2.1, k0_pay13 (F := Ideal) (wAt t p.1) p.2.2.1,
    k0_pay1 (F := Ideal) (k0_pay14 (F := Ideal) (wAt t p.1) p.2.2.2))

/-- The accumulators the first point starts from. -/
def zero (c : Dev nD) : St :=
  (xw m c, k0_pay3 (F := Ideal), k0_pay8 (F := Ideal) (FloatOps.ofBits .f32 0#32), k0_pay9 (F := Ideal))

/-- The output, from the accumulators. -/
def out (p : St) : FVec Ideal S16x16 .f32 :=
  (Scf.fold (n := k0_t1_loop.trips) (fun _ (a_1 : FVec Ideal S16x16 .f32 × BitVec 1) => (k0_pay7 a_1.1 a_1.2, Scalar.ori a_1.2 (Scalar.cmpf .olt (k0_pay6 a_1.1) (FloatOps.ofBits FTy.f32 730643660#32))))
    (k0_pay4 p.2.1 p.2.2.1 p.2.2.2, 0#1)).1

/-- The first point updates the accumulators it has just zeroed. -/
theorem at_A (c : Dev nD) (t : Fin cfg0.N) (acc) (h0 : t.val % 25 = 0) (h1 : ¬t.val % 25 = 24) :
    (stAt0 m c t.val t.isLt acc).2 = step m c t (zero m c) := by
  rw [stAt0_A m c t acc h0 h1]
  refine Prod.ext ?_ (Prod.ext ?_ (Prod.ext ?_ ?_))
  all_goals frame_out
  all_goals rw [iblk1]
  all_goals rfl

/-- A middle point updates the accumulators it finds. -/
theorem at_B (c : Dev nD) (t : Fin cfg0.N) (acc) (h0 : ¬ t.val % 25 = 0) (h1 : ¬t.val % 25 = 24) :
    (stAt0 m c t.val t.isLt acc).2 = step m c t acc.2 := by
  rw [stAt0_B m c t acc h0 h1]
  refine Prod.ext rfl (Prod.ext ?_ (Prod.ext ?_ ?_))
  all_goals frame_out
  all_goals simp only [read_unread_whole]
  all_goals rfl

/-- The last point updates the accumulators it finds and forms the output from them. -/
theorem at_C (c : Dev nD) (t : Fin cfg0.N) (acc) (h0 : ¬ t.val % 25 = 0) (h1 : t.val % 25 = 24) :
    stAt0 m c t.val t.isLt acc = (out (step m c t acc.2), step m c t acc.2) := by
  rw [stAt0_C m c t acc h0 h1]
  refine Prod.ext ?_ (Prod.ext rfl (Prod.ext ?_ (Prod.ext ?_ ?_)))
  all_goals frame_out
  all_goals simp only [read_unread_whole]
  all_goals rfl

/-! ## The accumulators after each point -/

/-- The sum of `g` over the 400 rows of point `p`. -/
def tile (g : Fin 10000 → EReal) (p : ℕ) (h : p < 25) : EReal := ∑ x : Fin 400, g ⟨p * 400 + x.val, by omega⟩

/-- What row `n` contributes to the sum of class `i` at class `j`. -/
def gH (c : Dev nD) (i j : Fin 16) (n : Fin 10000) : EReal :=
  Ideal.div (if Labelled (yOf m c) (kOf m c) n i then 1 else 0) (∑ l, aOf m c n l)
    * ∑ l, aOf m c n l * feat (yOf m c) (zOf m c) (kOf m c) l j

/-- What row `n` contributes to the count of class `i`. -/
def gQ (c : Dev nD) (i : Fin 16) (n : Fin 10000) : EReal := if Labelled (yOf m c) (kOf m c) n i then 1 else 0

/-- The loaded indicators are those of the point's nodes. -/
theorem wAt_eq (c : Dev nD) (t : Fin cfg0.N) (ht : t.val < 25) (x : Fin 400) (i : Fin 16) :
    wAt t (xw m c) (ix2 x i) = gQ m c i ⟨t.val * 400 + x.val, by omega⟩ := by
  unfold wAt gQ
  rw [ld_w _ t (inb t) x i (by omega), xw_w]

/-- The update of the sums, read. -/
theorem pay11_read (a : FVec Ideal S400x10000 .f32) (x : FVec Ideal S10000x128 .bf16) (w : FVec Ideal S400x16 .bf16) (h : FVec Ideal S16x16 .f32) (i j : Fin 16) :
    k0_pay11 (F := Ideal) a x w h (ix2 i j) = h (ix2 i j)
      + ∑ r : Fin 400, Ideal.div (w (ix2 r i)) (∑ l : Fin 10000, a (ix2 r l) * x (ix2 l 32)) * ∑ l : Fin 10000, a (ix2 r l) * x (ix2 l ⟨j.val, by omega⟩) := by
  pointwise [k0_pay11, k0_pay10]

/-- The update of the counts held as a column, read. -/
theorem pay13_read (w : FVec Ideal S400x16 .bf16) (h : FVec Ideal S16x1 .f32) (i : Fin 16) :
    k0_pay13 (F := Ideal) w h (ix2 i 0) = h (ix2 i 0) + ∑ r : Fin 400, w (ix2 r i) := by
  pointwise [k0_pay13, k0_pay12, k0_pay10]

/-- The update of the counts held as a row, read. -/
theorem pay14_read (w : FVec Ideal S400x16 .bf16) (h : FVec Ideal S1x16 .f32) (i : Fin 16) :
    k0_pay1 (F := Ideal) (k0_pay14 (F := Ideal) w h) (ix2 0 i) = h (ix2 0 i) + ∑ r : Fin 400, w (ix2 r i) := by
  pointwise [k0_pay1, k0_pay14, k0_pay12, k0_pay10]

/-- A point adds its nodes' contributions to the sums. -/
theorem step_h (c : Dev nD) (t : Fin cfg0.N) (ht : t.val < 25) (p : St) (hp : p.1 = xw m c) (i j : Fin 16) :
    (step m c t p).2.1 (ix2 i j) = p.2.1 (ix2 i j) + tile (gH m c i j) t.val ht := by
  show k0_pay11 (F := Ideal) (iblk m c 0 t) p.1 (wAt t p.1) p.2.1 (ix2 i j) = _
  rw [pay11_read, hp]
  refine congrArg _ (Finset.sum_congr rfl fun x _ => ?_)
  simp only [wAt_eq m c t ht, xw_one, xw_x, mul_one]
  unfold gH gQ
  simp only [iblk0 m c t x _ (by omega : t.val * 400 + x.val < 10000)]

/-- A point adds its nodes' contributions to the counts held as a column. -/
theorem step_c (c : Dev nD) (t : Fin cfg0.N) (ht : t.val < 25) (p : St) (hp : p.1 = xw m c) (i : Fin 16) :
    (step m c t p).2.2.1 (ix2 i 0) = p.2.2.1 (ix2 i 0) + tile (gQ m c i) t.val ht := by
  show k0_pay13 (F := Ideal) (wAt t p.1) p.2.2.1 (ix2 i 0) = _
  rw [pay13_read, hp]
  exact congrArg _ (Finset.sum_congr rfl fun x _ => wAt_eq m c t ht x i)

/-- A point adds its nodes' contributions to the counts held as a row. -/
theorem step_r (c : Dev nD) (t : Fin cfg0.N) (ht : t.val < 25) (p : St) (hp : p.1 = xw m c) (i : Fin 16) :
    (step m c t p).2.2.2 (ix2 0 i) = p.2.2.2 (ix2 0 i) + tile (gQ m c i) t.val ht := by
  show k0_pay1 (F := Ideal) (k0_pay14 (F := Ideal) (wAt t p.1) p.2.2.2) (ix2 0 i) = _
  rw [pay14_read, hp]
  exact congrArg _ (Finset.sum_congr rfl fun x _ => wAt_eq m c t ht x i)

/-- The sums start from zero. -/
theorem zero_h (c : Dev nD) (i j : Fin 16) : (zero m c).2.1 (ix2 i j) = 0 := by
  show k0_pay3 (F := Ideal) (ix2 i j) = 0
  pointwise [k0_pay3]

/-- The counts held as a column start from zero. -/
theorem zero_c (c : Dev nD) (i : Fin 16) : (zero m c).2.2.1 (ix2 i 0) = 0 := by
  show k0_pay8 (F := Ideal) (FloatOps.ofBits .f32 0#32) (ix2 i 0) = 0
  pointwise [k0_pay8]

/-- The counts held as a row start from zero. -/
theorem zero_r (c : Dev nD) (i : Fin 16) : (zero m c).2.2.2 (ix2 0 i) = 0 := by
  show k0_pay9 (F := Ideal) (ix2 0 i) = 0
  pointwise [k0_pay9]

/-- The sums over the points up to `n`. -/
def upto (g : Fin 10000 → EReal) (n : ℕ) (h : n < 25) : EReal := ∑ p : Fin (n + 1), tile g p.val (by omega)

/-- One more point adds its sum. -/
theorem upto_succ (g : Fin 10000 → EReal) (n : ℕ) (h : n + 1 < 25) :
    upto g (n + 1) h = upto g n (by omega) + tile g (n + 1) h := by
  unfold upto
  rw [Fin.sum_univ_castSucc]
  rfl

/-- Up to the first point there is its sum. -/
theorem upto_zero (g : Fin 10000 → EReal) : upto g 0 (by decide) = tile g 0 (by decide) := by
  unfold upto
  rw [Fin.sum_univ_castSucc, Fin.sum_univ_zero, zero_add]
  rfl

/-- Up to the last point there is the sum over all nodes. -/
theorem upto_last (g : Fin 10000 → EReal) : upto g 24 (by decide) = ∑ n, g n := by
  unfold upto tile
  exact (Fin.sum_univ_tiles 25 400 rfl g).symm

/-- The scratch holds the packed features, and the accumulators the sums over the points up to `n`. -/
def Inv (c : Dev nD) (n : ℕ) (h : n < 25) (p : St) : Prop :=
  p.1 = xw m c ∧ (∀ i j, p.2.1 (ix2 i j) = upto (gH m c i j) n h) ∧ (∀ i, p.2.2.1 (ix2 i 0) = upto (gQ m c i) n h)
    ∧ ∀ i, p.2.2.2 (ix2 0 i) = upto (gQ m c i) n h

/-- One more point keeps the invariant. -/
theorem inv_step (c : Dev nD) (n : ℕ) (h : n + 1 < 25) (hn : n + 1 < cfg0.N) (p : St) (hp : Inv m c n (by omega) p) :
    Inv m c (n + 1) h (step m c ⟨n + 1, hn⟩ p) := by
  obtain ⟨h1, h2, h3, h4⟩ := hp
  refine ⟨h1, fun i j => ?_, fun i => ?_, fun i => ?_⟩
  · rw [step_h m c _ h p h1, h2, upto_succ]
  · rw [step_c m c _ h p h1, h3, upto_succ]
  · rw [step_r m c _ h p h1, h4, upto_succ]

/-- The accumulators after every point but the last. -/
theorem inv_all (c : Dev nD) : ∀ (n : ℕ) (h : n < 24) (hn : n < cfg0.N), Inv m c n (by omega) (outsAt0 m c n hn).2
  | 0, _, hn => by
    rw [outsAt0_zero, at_A m c ⟨0, hn⟩ _ (Nat.zero_mod _) (by show ¬ 0 % 25 = 24; decide)]
    refine ⟨rfl, fun i j => ?_, fun i => ?_, fun i => ?_⟩
    · rw [step_h m c ⟨0, hn⟩ (Nat.lt_of_lt_of_eq hn N_0) _ rfl, zero_h, zero_add, upto_zero]
    · rw [step_c m c ⟨0, hn⟩ (Nat.lt_of_lt_of_eq hn N_0) _ rfl, zero_c, zero_add, upto_zero]
    · rw [step_r m c ⟨0, hn⟩ (Nat.lt_of_lt_of_eq hn N_0) _ rfl, zero_r, zero_add, upto_zero]
  | n + 1, h, hn => by
    rw [outsAt0_succ, at_B m c ⟨n + 1, hn⟩ _ (by show ¬ (n + 1) % 25 = 0; omega) (by show ¬ (n + 1) % 25 = 24; omega)]
    exact inv_step m c n (by omega) hn _ (inv_all c n (by omega) (by omega))

/-- The kernel's output is what the last point computes from the sums over all the points. -/
theorem output (c : Dev nD) : ∃ p : St, Inv m c 24 (by decide) p ∧ G2 m c = out p := by
  have hN : 23 + 1 < cfg0.N := lt_of_lt_of_eq (by decide) N_0.symm
  refine ⟨_, inv_step m c 23 (by decide) hN _ (inv_all m c 23 (by decide) (by omega)), ?_⟩
  rw [G2_last, ← outsAt0_sweep m c 24 hN]
  rw [outsAt0_succ m c 23 hN, at_C m c ⟨23 + 1, hN⟩ _ (by show ¬ (23 + 1) % 25 = 0; decide) (by show (23 + 1) % 25 = 24; decide)]

end Cert.KernelIdeal.Fold
end
-- ==== Proof.Near.lean ====
/-
  Extended reals that may differ only where both are infinite. The kernel divides a row's sum of products where the
  references divide each entry, so over the extended reals their per-class sums agree up to the sign of an infinity; the
  first normalisation, which divides by infinite column sums, forgets it.
-/
module

public import proofs.«01_k».proof.Proof.Model

@[expose] public section

noncomputable section

namespace Cert.Model

open Idealize.ShloMosaic

/-- An infinity of either sign. -/
def Inf (x : EReal) : Prop := x = ⊤ ∨ x = ⊥

/-- Equal, or both infinite. -/
def Near (x y : EReal) : Prop := x = y ∨ Inf x ∧ Inf y

/-- A value that is not infinite is a real number. -/
theorem exists_real {x : EReal} (h : ¬ Inf x) : ∃ r : ℝ, x = r := by
  induction x with
  | bot => exact absurd (Or.inr rfl) h
  | top => exact absurd (Or.inl rfl) h
  | coe r => exact ⟨r, rfl⟩

/-- A real number is not infinite. -/
theorem not_inf_coe (r : ℝ) : ¬ Inf (r : EReal) := fun h => h.elim (EReal.coe_ne_top r) (EReal.coe_ne_bot r)

/-- Every value is near itself. -/
theorem Near.rfl' {x : EReal} : Near x x := Or.inl rfl

/-- An infinite summand makes a sum infinite. -/
theorem Inf.add {x : EReal} (h : Inf x) (z : EReal) : Inf (x + z) := by
  rcases h with rfl | rfl
  · induction z with
    | bot => exact Or.inr (EReal.add_bot _)
    | top => exact Or.inl rfl
    | coe r => exact Or.inl (EReal.top_add_coe r)
  · exact Or.inr (EReal.bot_add _)

/-- The negative of an infinity is infinite. -/
theorem Inf.neg {x : EReal} (h : Inf x) : Inf (-x) := by
  rcases h with rfl | rfl
  · exact Or.inr EReal.neg_top
  · exact Or.inl EReal.neg_bot

/-- A number other than zero times an infinity is infinite. -/
theorem Inf.mul {x : EReal} (h : Inf x) {r : ℝ} (hr : r ≠ 0) : Inf ((r : EReal) * x) := by
  rcases lt_or_gt_of_ne hr with hr | hr <;> rcases h with rfl | rfl
  · exact Or.inr (EReal.coe_mul_top_of_neg hr)
  · exact Or.inl (EReal.coe_mul_bot_of_neg hr)
  · exact Or.inl (EReal.coe_mul_top_of_pos hr)
  · exact Or.inr (EReal.coe_mul_bot_of_pos hr)

/-- The inverse of an infinity is zero. -/
theorem Inf.inv {x : EReal} (h : Inf x) : x⁻¹ = 0 := by
  rcases h with rfl | rfl
  · exact EReal.inv_top
  · exact EReal.inv_bot

/-- An infinity is not zero. -/
theorem Inf.ne_zero {x : EReal} (h : Inf x) : x ≠ 0 := fun h0 => by
  rw [h0] at h
  exact not_inf_coe 0 h

/-- Anything divided by an infinity is zero. -/
theorem Inf.div_eq {s : EReal} (h : Inf s) (x : EReal) : Ideal.div x s = 0 := by
  rw [div_eq_mul_inv h.ne_zero, h.inv, mul_zero]

/-- Sums of near values are near. -/
theorem Near.add {x y x' y' : EReal} (h : Near x y) (h' : Near x' y') : Near (x + x') (y + y') := by
  rcases h with rfl | ⟨h1, h2⟩
  · rcases h' with rfl | ⟨h1, h2⟩
    · exact Or.inl rfl
    · rw [add_comm x, add_comm x]
      exact Or.inr ⟨h1.add _, h2.add _⟩
  · exact Or.inr ⟨h1.add _, h2.add _⟩

/-- The negatives of near values are near. -/
theorem Near.neg {x y : EReal} (h : Near x y) : Near (-x) (-y) := by
  rcases h with rfl | ⟨h1, h2⟩
  · exact Or.inl rfl
  · exact Or.inr ⟨h1.neg, h2.neg⟩

/-- Finite sums of near values are near. -/
theorem near_sum {ι : Type} (s : Finset ι) {f g : ι → EReal} (h : ∀ i, Near (f i) (g i)) : Near (∑ i ∈ s, f i) (∑ i ∈ s, g i) := by
  classical
  induction s using Finset.induction_on with
  | empty => exact Or.inl rfl
  | insert a s ha ih =>
    rw [Finset.sum_insert ha, Finset.sum_insert ha]
    exact (h a).add ih

/-- A real factor goes through a sum of two up to nearness. -/
theorem near_mul_add (r : ℝ) (u v : EReal) : Near ((r : EReal) * (u + v)) ((r : EReal) * u + (r : EReal) * v) := by
  by_cases hr : r = 0
  · left
    rw [hr, EReal.coe_zero, zero_mul, zero_mul, zero_mul, add_zero]
  · by_cases hu : Inf u
    · exact Or.inr ⟨(hu.add v).mul hr, (hu.mul hr).add _⟩
    · by_cases hv : Inf v
      · rw [add_comm u, add_comm ((r : EReal) * u)]
        exact Or.inr ⟨(hv.add u).mul hr, (hv.mul hr).add _⟩
      · obtain ⟨x, rfl⟩ := exists_real hu
        obtain ⟨z, rfl⟩ := exists_real hv
        left
        rw [← EReal.coe_add, ← EReal.coe_mul, ← EReal.coe_mul, ← EReal.coe_mul, ← EReal.coe_add, mul_add]

/-- Nearness is transitive. -/
theorem Near.trans {x y z : EReal} (h : Near x y) (h' : Near y z) : Near x z := by
  rcases h with rfl | ⟨h1, h2⟩
  · exact h'
  · rcases h' with rfl | ⟨-, h3⟩
    · exact Or.inr ⟨h1, h2⟩
    · exact Or.inr ⟨h1, h3⟩

/-- A real factor goes through a finite sum up to nearness. -/
theorem near_mul_sum {ι : Type} (s : Finset ι) (r : ℝ) (f : ι → EReal) : Near ((r : EReal) * ∑ i ∈ s, f i) (∑ i ∈ s, (r : EReal) * f i) := by
  classical
  induction s using Finset.induction_on with
  | empty => exact Or.inl (mul_zero _)
  | insert a s ha ih =>
    rw [Finset.sum_insert ha, Finset.sum_insert ha]
    exact (near_mul_add r _ _).trans (Near.rfl'.add ih)

/-- The inverse of a number other than zero is real. -/
theorem inv_real {r : EReal} (h : r ≠ 0) : ∃ x : ℝ, r⁻¹ = x := by
  by_cases hi : Inf r
  · exact ⟨0, hi.inv⟩
  · obtain ⟨x, rfl⟩ := exists_real hi
    exact ⟨x⁻¹, (EReal.coe_inv x).symm⟩

/-- Near values divided by the same value are near. -/
theorem Near.div {x y : EReal} (h : Near x y) (q : EReal) : Near (Ideal.div x q) (Ideal.div y q) := by
  rcases h with rfl | ⟨h1, h2⟩
  · exact Or.inl rfl
  · by_cases hq : q = 0
    · have hz : ∀ u : EReal, Inf (Ideal.div u q) := fun u => by
        unfold Ideal.div
        rw [if_pos hq]
        split
        · exact Or.inl rfl
        · exact Or.inr rfl
      exact Or.inr ⟨hz x, hz y⟩
    · by_cases hi : Inf q
      · rw [hi.div_eq, hi.div_eq]
        exact Or.inl rfl
      · obtain ⟨r, rfl⟩ := exists_real hi
        have hr : r⁻¹ ≠ 0 := inv_ne_zero fun h0 => hq (by rw [h0]; rfl)
        rw [div_eq_mul_inv hq, div_eq_mul_inv hq, ← EReal.coe_inv, mul_comm x, mul_comm y]
        exact Or.inr ⟨h1.mul hr, h2.mul hr⟩

/-! ## One row -/

variable (a : Fin 10000 → Fin 10000 → EReal) (y : Fin 10000 → BitVec 32) (Z : Fin 10000 → Fin 16 → EReal)
  (k : Fin 10000 → BitVec 1)

/-- Node `n`'s row has a sum other than zero, or it is zero throughout and the node is unlabelled. -/
def Usable (n : Fin 10000) : Prop := (∑ l, a n l) ≠ 0 ∨ (∀ l, a n l = 0) ∧ k n ≠ 1#1

/-- A node's contribution as the kernel forms it — the indicator over the row's sum, times the sum of the products — is
near the row-normalised aggregation of a labelled node and near zero for the others. -/
theorem row_term (n : Fin 10000) (c d : Fin 16) (h : Usable a k n) :
    Near (Ideal.div (if Labelled y k n c then 1 else 0) (∑ l, a n l) * ∑ j, a n j * feat y Z k j d)
      (if Labelled y k n c then node a y Z k n d else 0) := by
  rcases h with h | ⟨h0, hk⟩
  · rw [div_eq_mul_inv h]
    split
    · obtain ⟨r, hr⟩ := inv_real h
      rw [one_mul, hr]
      refine (near_mul_sum _ r _).trans (Or.inl ?_)
      unfold node
      refine Finset.sum_congr rfl fun j _ => ?_
      rw [div_eq_mul_inv h, hr]
      exact (mul_left_comm _ _ _).trans (mul_assoc _ _ _).symm
    · left
      rw [zero_mul, zero_mul]
  · left
    have hs : (∑ j, a n j * feat y Z k j d) = 0 := Finset.sum_eq_zero fun j _ => by rw [h0, zero_mul]
    rw [hs, mul_zero, if_neg fun hl => hk hl.1]

/-! ## The repair and the loop -/

/-- Near sums give near repaired means. -/
theorem near_start {S S' : Fin 16 → Fin 16 → EReal} (q : Fin 16 → EReal) (h : ∀ c d, Near (S c d) (S' c d)) (c d : Fin 16) :
    Near (start S q c d) (start S' q c d) := by
  have hf (c d : Fin 16) : Near (filled S q c d) (filled S' q c d) := by
    unfold filled mean
    split
    · split
      · exact Near.rfl'
      · exact (h d c).div _
    · exact (h c d).div _
  unfold start miss
  split
  · refine Near.div ?_ _
    rw [sub_eq_add_neg, sub_eq_add_neg]
    exact Near.rfl'.add (near_sum _ fun d => hf c d).neg
  · exact hf c d

/-- A sum with an infinite term is infinite. -/
theorem inf_sum {ι : Type} (s : Finset ι) (f : ι → EReal) (i : ι) (hi : i ∈ s) (h : Inf (f i)) : Inf (∑ j ∈ s, f j) := by
  classical
  rw [← Finset.add_sum_erase s f hi]
  exact h.add _

/-- Columns of near entries, divided by their sums, are equal. -/
theorem column_eq {f g : Fin 16 → EReal} (h : ∀ e, Near (f e) (g e)) (c : Fin 16) :
    Ideal.div (f c) (∑ e, f e) = Ideal.div (g c) (∑ e, g e) := by
  rcases near_sum Finset.univ h with hs | ⟨h1, h2⟩
  · by_cases hi : Inf (∑ e, f e)
    · rw [hi.div_eq, (hs ▸ hi : Inf (∑ e, g e)).div_eq]
    · rcases h c with hc | ⟨hc, -⟩
      · rw [hc, hs]
      · exact absurd (inf_sum _ f c (Finset.mem_univ _) hc) hi
  · rw [h1.div_eq, h2.div_eq]

/-- Near matrices have the same normalisation. -/
theorem norm_near {H H' : Mat} (h : ∀ c d, Near (H (ix2 c d)) (H' (ix2 c d))) : Model.norm H = Model.norm H' := by
  have hc (c d : Fin 16) : Ideal.div (H (ix2 c d)) (∑ e : Fin 16, H (ix2 e d)) = Ideal.div (H' (ix2 c d)) (∑ e : Fin 16, H' (ix2 e d)) :=
    column_eq (f := fun e => H (ix2 e d)) (g := fun e => H' (ix2 e d)) (fun e => h e d) c
  funext i
  idx_vars i
  show Ideal.div (Ideal.div (H (ix2 i0 i1)) (∑ e : Fin 16, H (ix2 e i1))) (∑ f : Fin 16, Ideal.div (H (ix2 i0 f)) (∑ e : Fin 16, H (ix2 e f)))
    = Ideal.div (Ideal.div (H' (ix2 i0 i1)) (∑ e : Fin 16, H' (ix2 e i1))) (∑ f : Fin 16, Ideal.div (H' (ix2 i0 f)) (∑ e : Fin 16, H' (ix2 e f)))
  simp only [hc]

/-- The absolute value of an infinity is `⊤`. -/
theorem abs_inf {x : EReal} (h : Inf x) : FloatOps.absf (F := Ideal) (φ := .f32) x = ⊤ := by
  show max x (-x) = ⊤
  rcases h with rfl | rfl
  · exact max_eq_left le_top
  · rw [EReal.neg_bot]
    exact max_eq_right le_top

/-- A normalisation moves near matrices equally far. -/
theorem moved_near {H H' : Mat} (h : ∀ c d, Near (H (ix2 c d)) (H' (ix2 c d))) : moved H = moved H' := by
  unfold moved
  rw [norm_near h]
  refine Finset.sum_congr rfl fun c _ => Finset.sum_congr rfl fun d _ => ?_
  rcases h c d with e | ⟨h1, h2⟩
  · rw [e]
  · have hx {x : EReal} (hx : Inf x) (N : EReal) : FloatOps.absf (F := Ideal) (φ := .f32) (N - x) = ⊤ := by
      rw [sub_eq_add_neg, add_comm]
      exact abs_inf (hx.neg.add _)
    rw [hx h1, hx h2]

/-- Near matrices have the same result: the first trip makes them equal. -/
theorem result_near {H H' : Mat} (h : ∀ c d, Near (H (ix2 c d)) (H' (ix2 c d))) : result H = result H' := by
  have e : trip (H, 0#1) = trip (H', 0#1) := by
    have h0 : ¬ (0#1 : BitVec 1) = 1#1 := by decide
    unfold trip
    rw [if_neg h0, if_neg h0, norm_near h, moved_near h]
  have s (M : Mat) : result M = (trip^[299] (trip (M, 0#1))).1 := congrArg Prod.fst (Function.iterate_succ_apply trip 299 (M, 0#1))
  rw [s, s, e]

end Cert.Model

end
-- ==== Proof.KernelResult.lean ====
/-
  The kernel's last point: the repair and the iterated normalisation of the accumulated sums and counts, and the
  kernel's output in the model's terms.
-/
module

public import proofs.«01_k».proof.Proof.KernelFold
public import proofs.«01_k».proof.Proof.Near

@[expose] public section

set_option maxRecDepth 16384

noncomputable section
namespace Cert.KernelIdeal.Fold

open Idealize.ShloMosaic Idealize.ShloMosaic.TcCoe
open Idealize.SL.Sem
open Cert.KernelIdeal Cert.KernelIdeal.Gen Cert.KernelIdeal.Value Cert.Model

variable (m : (ℓ : Loc nD τ sig) → Buf (Elt Ideal) ℓ)

/-! ## The loop -/

/-- The kernel's normalisation is the model's. -/
theorem pay5_eq (H : FVec Ideal S16x16 .f32) : k0_pay5 (F := Ideal) H = Model.norm H := by
  funext i
  idx_vars i
  unfold Model.norm
  pointwise [k0_pay5]

/-- How far it moves a matrix is the model's. -/
theorem pay6_eq (H : FVec Ideal S16x16 .f32) : k0_pay6 (F := Ideal) H = moved H := by
  unfold moved
  rw [← pay5_eq]
  pointwise [k0_pay6]

/-- A trip keeps the matrix when the flag is set, and normalises it otherwise. -/
theorem pay7_eq (H : FVec Ideal S16x16 .f32) (b : BitVec 1) : k0_pay7 (F := Ideal) H b = if b = 1#1 then H else Model.norm H := by
  rw [← pay5_eq]
  rfl

/-- A fold that ignores the trip's number is an iterate. -/
theorem fold_iterate {α : Type} (n : ℕ) (g : α → α) (x : α) : Scf.fold (n := n) (fun _ p => g p) x = g^[n] x := by
  rw [Scf.fold_eq, List.foldl_const, List.length_finRange]

/-- The kernel's loop is the model's, entered with the repaired means. -/
theorem out_eq (p : St) : out p = result (k0_pay4 (F := Ideal) p.2.1 p.2.2.1 p.2.2.2) := by
  unfold out result
  have h300 : k0_t1_loop.trips = 300 := by decide
  rw [← h300, ← fold_iterate]
  refine congrArg (fun g => (Scf.fold (n := k0_t1_loop.trips) g (k0_pay4 (F := Ideal) p.2.1 p.2.2.1 p.2.2.2, 0#1)).1) ?_
  funext _ q
  unfold trip
  rw [pay6_eq, pay7_eq]
  rfl

/-! ## The matrix the loop starts from -/

/-- A sum against a row of the identity matrix picks the entry. -/
theorem sum_eye (f : Fin 16 → EReal) (j : Fin 16) :
    (∑ x : Fin 16, f x * FloatOps.sitofp (F := Ideal) .f32
      (BitVec.setWidth 32 (IntOp.cmpi .eq (BitVec.ofNat 32 x.val) (BitVec.ofNat 32 j.val)))) = f j := by
  have h (x : Fin 16) : FloatOps.sitofp (F := Ideal) .f32
      (BitVec.setWidth 32 (IntOp.cmpi .eq (BitVec.ofNat 32 x.val) (BitVec.ofNat 32 j.val))) = if x = j then (1 : EReal) else 0 := by
    refine (sitofp_ofBool _).trans ?_
    refine if_congr ?_ rfl rfl
    revert x j
    decide
  simp only [h, mul_ite, mul_one, mul_zero]
  rw [Finset.sum_ite_eq' Finset.univ j f, if_pos (Finset.mem_univ j)]

/-- The kernel's matrix before the loop, from the sums and the counts as a column and as a row. -/
theorem pay4_eq (S : FVec Ideal S16x16 .f32) (a : FVec Ideal S16x1 .f32) (b : FVec Ideal S1x16 .f32) (q : Fin 16 → EReal)
    (ha : ∀ i, a (ix2 i 0) = q i) (hb : ∀ i, b (ix2 0 i) = q i) (hq : ∀ i, q i ≠ 0 → max (q i) 1 = q i) (i j : Fin 16) :
    k0_pay4 (F := Ideal) S a b (ix2 i j) = start (fun c d => S (ix2 c d)) q i j := by
  have hf (j : Fin 16) : (if q i = 0 ∧ q j = 0 then 0 else if q i = 0 then Ideal.div (S (ix2 j i)) (max (q j) 1)
      else Ideal.div (S (ix2 i j)) (max (q i) 1)) = filled (fun c d => S (ix2 c d)) q i j := by
    unfold filled mean
    by_cases hi : q i = 0 <;> by_cases hj : q j = 0 <;>
      simp only [hi, hj, and_self, and_true, true_and, and_false, false_and, if_true, if_false]
    · rw [hq j hj]
    · rw [hq i hi]
    · rw [hq i hi]
  pointwise [k0_pay4]
  simp only [ha, hb, sum_eye, andi_ofBool, select_ofBool, sitofp_ofBool, decide_eq_true_eq, hf]
  unfold start miss
  rfl

/-! ## The kernel's result -/

/-- When every node's row is usable, the kernel's output is the result from the sums and counts. -/
theorem G2_eq (c : Dev nD) (hr : ∀ n, Usable (aOf m c) (kOf m c) n) :
    G2 m c = result (fun i => start (sums (aOf m c) (yOf m c) (zOf m c) (kOf m c)) (count (yOf m c) (kOf m c)) (i 0) (i 1)) := by
  obtain ⟨p, ⟨_, h2, h3, h4⟩, hG⟩ := output m c
  rw [hG, out_eq]
  refine result_near fun i j => ?_
  have hS (c' d : Fin 16) : Near (p.2.1 (ix2 c' d)) (sums (aOf m c) (yOf m c) (zOf m c) (kOf m c) c' d) := by
    rw [h2, upto_last]
    exact near_sum _ fun n => row_term _ _ _ _ n c' d (hr n)
  rw [pay4_eq _ _ _ (count (yOf m c) (kOf m c)) (fun i => ?_) (fun i => ?_) (fun i hi => max_count_one _ _ hi)]
  · exact near_start _ hS i j
  · rw [h3, upto_last]
    rfl
  · rw [h4, upto_last]
    rfl

end Cert.KernelIdeal.Fold
end
-- ==== Proof.Scatter.lean ====
/-
  The segment sums, read: an accumulating scatter of rows, or of scalars, by one index word each is a sum over the
  updates whose word is the row.
-/
module

public import proofs.«01_k».proof.Proof.Model
public import Idealize.ShloMosaic.Lib.Routing.OpsPair

@[expose] public section

set_option maxRecDepth 16384

noncomputable section
namespace Cert.Model

open Idealize.ShloMosaic

/-- A scatter of 10000 rows of 16 into 17 rows: entry `(c, e)` gains entry `e` of every row whose word is `c`. -/
theorem scatter_rows (h : ScatterDims.WF ⟨2, ![17, 16]⟩ ⟨2, ![10000, 1]⟩ ⟨2, ![10000, 16]⟩ [1] [0] [0] 1)
    (x : FVec Ideal ⟨2, ![17, 16]⟩ .f32) (idx : IVec ⟨2, ![10000, 1]⟩ 32) (u : FVec Ideal ⟨2, ![10000, 16]⟩ .f32) (c : Fin 17) (e : Fin 16) :
    Host.scatterAdd (F := Ideal) (ScatterDims.mk (s := ⟨2, ![17, 16]⟩) (si := ⟨2, ![10000, 1]⟩) (u := ⟨2, ![10000, 16]⟩) [1] [0] [0] 1 h) x idx u (ix2 c e)
      = x (ix2 c e) + ∑ n : Fin 10000, if (idx (ix2 n 0)).toInt = (c.val : ℤ) then u (ix2 n e) else 0 := by
  show x (ix2 c e) + _ = _
  refine congrArg _ ?_
  rw [Finset.sum_filter, sum_idx2]
  refine Finset.sum_congr rfl fun n _ => ?_
  have hl (f : Fin 16) : ((ScatterDims.mk (s := ⟨2, ![17, 16]⟩) (si := ⟨2, ![10000, 1]⟩) (u := ⟨2, ![10000, 16]⟩) [1] [0] [0] 1 h).resultIdx? (ix2 n f) idx
      = some (ix2 c e)) ↔ ((idx (ix2 n 0)).toInt = (c.val : ℤ) ∧ f = e) := by
    refine (Routing.resultIdx?_ix2 _ _ _ _ _).trans (and_congr ?_ ?_)
    · refine Eq.congr_left ((add_zero _).trans (congrArg (fun k => (idx k).toInt) (funext fun b => ?_)))
      fin_cases b <;> rfl
    · show ((0 : ℤ) + (f.val : ℤ) = (e.val : ℤ)) ↔ f = e
      rw [Fin.ext_iff]
      omega
  simp only [hl]
  by_cases hc : (idx (ix2 n 0)).toInt = (c.val : ℤ)
  · simp only [hc, true_and, if_true]
    rw [Finset.sum_ite_eq' Finset.univ e (fun f => u (ix2 n f)), if_pos (Finset.mem_univ e)]
  · simp only [hc, false_and, if_false, Finset.sum_const_zero]

/-- A scatter of 10000 scalars into 17: entry `c` gains every scalar whose word is `c`. -/
theorem scatter_scalars (h : ScatterDims.WF ⟨1, ![17]⟩ ⟨2, ![10000, 1]⟩ ⟨1, ![10000]⟩ [] [0] [0] 1)
    (x : FVec Ideal ⟨1, ![17]⟩ .f32) (idx : IVec ⟨2, ![10000, 1]⟩ 32) (u : FVec Ideal ⟨1, ![10000]⟩ .f32) (c : Fin 17) :
    Host.scatterAdd (F := Ideal) (ScatterDims.mk (s := ⟨1, ![17]⟩) (si := ⟨2, ![10000, 1]⟩) (u := ⟨1, ![10000]⟩) [] [0] [0] 1 h) x idx u (ix1 c)
      = x (ix1 c) + ∑ n : Fin 10000, if (idx (ix2 n 0)).toInt = (c.val : ℤ) then u (ix1 n) else 0 := by
  show x (ix1 c) + _ = _
  refine congrArg _ ?_
  rw [Finset.sum_filter, sum_idx1]
  refine Finset.sum_congr rfl fun n _ => ?_
  have hl : ((ScatterDims.mk (s := ⟨1, ![17]⟩) (si := ⟨2, ![10000, 1]⟩) (u := ⟨1, ![10000]⟩) [] [0] [0] 1 h).resultIdx? (ix1 n) idx
      = some (ix1 c)) ↔ (idx (ix2 n 0)).toInt = (c.val : ℤ) := by
    refine (Routing.resultIdx?_ix1 _ _ _ _).trans ?_
    refine Eq.congr_left ((add_zero _).trans (congrArg (fun k => (idx k).toInt) (funext fun b => ?_)))
    fin_cases b <;> rfl
  simp only [hl]

/-- The segment word of a node — its label if it is labelled, 16 if not — is class `c` exactly when it is labelled with `c`. -/
theorem segment_word (b : BitVec 1) (y : BitVec 32) (c : Fin 16) :
    (Scalar.select b y 16#32).toInt = (c.val : ℤ) ↔ b = 1#1 ∧ y = BitVec.ofNat 32 c.val := by
  have hc : (BitVec.ofNat 32 c.val).toInt = (c.val : ℤ) := by
    revert c
    decide
  have h16 : ¬ (16#32).toInt = (c.val : ℤ) := by
    show ¬ (16 : ℤ) = (c.val : ℤ)
    omega
  rcases BitVec.eq_zero_or_eq_one b with rfl | rfl
  · refine ⟨fun h => absurd h h16, fun h => absurd h.1 (by decide)⟩
  · show y.toInt = (c.val : ℤ) ↔ _
    rw [← hc, BitVec.toInt_inj]
    exact ⟨fun h => ⟨rfl, h⟩, fun h => h.2⟩

end Cert.Model
end
-- ==== Proof.Host.lean ====
/-
  The references' host terms before the repair of the empty classes — the aggregation, the segment sums and the counts —
  and one normalisation, read at each index in the model's terms. Both references compute these terms.
-/
module

public import proofs.«01_k».proof.Proof.Gen.ReferenceIdeal
public import proofs.«01_k».proof.Proof.Scatter
public import Idealize.ShloMosaic.Lib.Pointwise

@[expose] public section

set_option maxRecDepth 16384

noncomputable section
namespace Cert.Model

open Idealize.ShloMosaic
open Cert.ReferenceIdeal Cert.ReferenceIdeal.Facts₀

variable (A : FVec Ideal S10000x10000 .f32) (Y : IVec S10000 32) (Z : FVec Ideal S10000x16 .f32) (K : IVec S10000 1)

/-- The flags as a column. -/
def flagT : FVec Ideal S10000x1 .f32 := broadcastInDim S10000x1 ![0] bcast_S10000_S10000x1_0 (uitofp (F := Ideal) .f32 K)

/-- The indicators of the labels. -/
def oneHotT : FVec Ideal S10000x16 .f32 :=
  uitofp (F := Ideal) .f32 (cmpi .eq
    (broadcastInDim S10000x16 ![0, 1] bcast_S10000x1_S10000x16_0_1 (broadcastInDim S10000x1 ![0] bcast_S10000_S10000x1_0 Y))
    (broadcastInDim S10000x16 ![0, 1] bcast_S1x16_S10000x16_0_1 (iotaInDim S1x16 32 1)))

/-- The exponentials of the beliefs less their row's largest. -/
def expT : FVec Ideal S10000x16 .f32 :=
  Host.exp (subf Z (broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf Z (constant S_ .f32 0xFF800000#32) reducesTo_S10000x16_S10000_d1 h_S_)))))

/-- The softmax of the beliefs. -/
def softT : FVec Ideal S10000x16 .f32 :=
  Host.divf (expT Z) (broadcastInDim S10000x16 ![0, 1] bcast_S10000x1_S10000x16_0_1 (broadcastInDim S10000x1 ![0] bcast_S10000_S10000x1_0
    (Host.reduceAdd (expT Z) (constant S_ .f32 0x00000000#32) reducesTo_S10000x16_S10000_d1 h_S_)))

/-- The features. -/
def featT : FVec Ideal S10000x16 .f32 :=
  addf (mulf (softT Z) (broadcastInDim S10000x16 ![0, 1] bcast_S10000x1_S10000x16_0_1
      (subf (broadcastInDim S10000x1 ![] bcast_S_S10000x1 (constant S_ .f32 0x3F800000#32)) (flagT K))))
    (mulf (oneHotT Y) (broadcastInDim S10000x16 ![0, 1] bcast_S10000x1_S10000x16_0_1 (flagT K)))

/-- The row-normalised adjacency matrix times the features. -/
def nodeT : FVec Ideal S10000x16 .f32 :=
  Host.dotGeneral dot_S10000x10000_S10000x16_S10000x16_1_0_0_1_n_n none
    (Host.divf A (broadcastInDim S10000x10000 ![0, 1] bcast_S10000x1_S10000x10000_0_1 (broadcastInDim S10000x1 ![0] bcast_S10000_S10000x1_0
      (Host.reduceAdd A (constant S_ .f32 0x00000000#32) reducesTo_S10000x10000_S10000_d1 h_S_))))
    (featT Y Z K)

/-- The segment words. -/
def segT : IVec S10000x1 32 :=
  broadcastInDim S10000x1 ![0] bcast_S10000_S10000x1_0 (select K Y (broadcastInDim S10000 ![] bcast_S_S10000 (constantI S_ 32 16#32)))

/-- The per-class sums. -/
def sumsT : FVec Ideal S16x16 .f32 :=
  extractStridedSlice S16x16 ![0, 0] (Host.scatterAdd scatter_S17x16_S10000x1_S10000x16_1_0_0_1
    (broadcastInDim S17x16 ![] bcast_S_S17x16 (constant S_ .f32 0x00000000#32)) (segT Y K) (nodeT A Y Z K)) slices_S17x16_S16x16_0_0

/-- The counts from the segment words. -/
def countsOf (s : IVec S10000 32) : FVec Ideal S16 .f32 :=
  extractStridedSlice S16 ![0] (Host.scatterAdd scatter_S17_S10000x1_S10000_n_0_0_1
    (broadcastInDim S17 ![] bcast_S_S17 (constant S_ .f32 0x00000000#32)) (broadcastInDim S10000x1 ![0] bcast_S10000_S10000x1_0 s)
    (broadcastInDim S10000 ![] bcast_S_S10000 (constant S_ .f32 0x3F800000#32))) slices_S17_S16_0

/-- The per-class counts. -/
def countT : FVec Ideal S16 .f32 := countsOf (select K Y (broadcastInDim S10000 ![] bcast_S_S10000 (constantI S_ 32 16#32)))

/-- The means from the segment words and the rows to be summed. -/
def meansOf (s : IVec S10000 32) (N : FVec Ideal S10000x16 .f32) : FVec Ideal S16x16 .f32 :=
  Host.divf
    (extractStridedSlice S16x16 ![0, 0] (Host.scatterAdd scatter_S17x16_S10000x1_S10000x16_1_0_0_1
      (broadcastInDim S17x16 ![] bcast_S_S17x16 (constant S_ .f32 0x00000000#32)) (broadcastInDim S10000x1 ![0] bcast_S10000_S10000x1_0 s) N)
      slices_S17x16_S16x16_0_0)
    (broadcastInDim S16x16 ![0, 1] bcast_S16x1_S16x16_0_1 (broadcastInDim S16x1 ![0] bcast_S16_S16x1_0
      (countsOf s)))

/-- The per-class means. -/
def meanT : FVec Ideal S16x16 .f32 :=
  meansOf (select K Y (broadcastInDim S10000 ![] bcast_S_S10000 (constantI S_ 32 16#32))) (nodeT A Y Z K)

/-! ## Read at an index -/

/-- The adjacency matrix as a function. -/
abbrev aF (n j : Fin 10000) : EReal := A (ix2 n j)
/-- The labels as a function. -/
abbrev yF (n : Fin 10000) : BitVec 32 := Y (ix1 n)
/-- The beliefs as a function. -/
abbrev zF (n : Fin 10000) (d : Fin 16) : EReal := Z (ix2 n d)
/-- The flags as a function. -/
abbrev kF (n : Fin 10000) : BitVec 1 := K (ix1 n)

/-- The exponentials, read. -/
theorem expT_eq (n : Fin 10000) (d : Fin 16) :
    expT Z (ix2 n d) = Ideal.exp (zF Z n d - Finset.fold max ⊥ (fun x => zF Z n x) Finset.univ) := by
  rw [← bot_bits]
  pointwise [expT]
  rw [bot_bits, max_eq_right bot_le]

/-- The softmax is the model's. -/
theorem softT_eq (n : Fin 10000) (d : Fin 16) : softT Z (ix2 n d) = soft (zF Z) n d := by
  unfold soft
  simp only [← expT_eq]
  pointwise [softT]

/-- The features are the model's. -/
theorem featT_eq (n : Fin 10000) (d : Fin 16) : featT Y Z K (ix2 n d) = feat (yF Y) (zF Z) (kF K) n d := by
  have e : featT Y Z K (ix2 n d) = softT Z (ix2 n d) * (1 - FloatOps.uitofp (F := Ideal) .f32 (kF K n))
      + FloatOps.uitofp (F := Ideal) .f32 (IntOp.cmpi .eq (yF Y n) (BitVec.ofNat 32 d.val)) * FloatOps.uitofp (F := Ideal) .f32 (kF K n) := by
    pointwise [featT, oneHotT, flagT]
  have hm : (if IntOp.cmpi .eq (yF Y n) (BitVec.ofNat 32 d.val) = 1#1 then (1 : EReal) else 0) * (if kF K n = 1#1 then 1 else 0)
      = if Labelled (yF Y) (kF K) n d then 1 else 0 := by
    have hc : IntOp.cmpi .eq (yF Y n) (BitVec.ofNat 32 d.val) = 1#1 ↔ yF Y n = BitVec.ofNat 32 d.val := by
      show BitVec.ofBool (yF Y n == BitVec.ofNat 32 d.val) = 1#1 ↔ _
      by_cases h : yF Y n = BitVec.ofNat 32 d.val
      · simp [h]
      · rw [beq_eq_false_iff_ne.mpr h]
        exact ⟨fun h' => absurd h' (by decide), fun h' => absurd h' h⟩
    simp only [hc, Labelled]
    by_cases h : kF K n = 1#1 <;> by_cases h' : yF Y n = BitVec.ofNat 32 d.val <;> simp [h, h']
  rw [e, softT_eq, uitofp_bit, uitofp_bit, hm, feat_of_flag]

/-- The aggregation is the model's. -/
theorem nodeT_eq (n : Fin 10000) (d : Fin 16) : nodeT A Y Z K (ix2 n d) = node (aF A) (yF Y) (zF Z) (kF K) n d := by
  unfold node
  simp only [← featT_eq]
  pointwise [nodeT]

/-- The segment word of a node: its label, or the dropped segment. -/
theorem segT_eq (n : Fin 10000) : segT Y K (ix2 n 0) = Scalar.select (kF K n) (yF Y n) 16#32 := by
  pointwise [segT]

/-- The sums are the model's. -/
theorem sumsT_eq (c d : Fin 16) : sumsT A Y Z K (ix2 c d) = sums (aF A) (yF Y) (zF Z) (kF K) c d := by
  have e : sumsT A Y Z K (ix2 c d) = Host.scatterAdd scatter_S17x16_S10000x1_S10000x16_1_0_0_1
    (broadcastInDim S17x16 ![] bcast_S_S17x16 (constant (F := Ideal) S_ .f32 0x00000000#32)) (segT Y K) (nodeT A Y Z K) (ix2 ⟨c.val, by omega⟩ d) := by
    unfold sumsT
    generalize Host.scatterAdd scatter_S17x16_S10000x1_S10000x16_1_0_0_1
      (broadcastInDim S17x16 ![] bcast_S_S17x16 (constant (F := Ideal) S_ .f32 0x00000000#32)) (segT Y K) (nodeT A Y Z K) = X
    pointwise []
  rw [e]
  refine (scatter_rows _ _ _ _ _ _).trans ?_
  simp only [segT_eq, segment_word, nodeT_eq]
  unfold sums
  have z : broadcastInDim S17x16 ![] bcast_S_S17x16 (constant (F := Ideal) S_ .f32 0x00000000#32) (ix2 ⟨c.val, by omega⟩ d) = 0 := by
    pointwise []
  rw [z, zero_add]

/-- The counts are the model's. -/
theorem countT_eq (c : Fin 16) : countT Y K (ix1 c) = count (yF Y) (kF K) c := by
  have e : countT Y K (ix1 c) = Host.scatterAdd scatter_S17_S10000x1_S10000_n_0_0_1
    (broadcastInDim S17 ![] bcast_S_S17 (constant (F := Ideal) S_ .f32 0x00000000#32)) (segT Y K)
    (broadcastInDim S10000 ![] bcast_S_S10000 (constant (F := Ideal) S_ .f32 0x3F800000#32)) (ix1 ⟨c.val, by omega⟩) := by
    unfold countT countsOf
    show extractStridedSlice S16 ![0] (Host.scatterAdd scatter_S17_S10000x1_S10000_n_0_0_1
      (broadcastInDim S17 ![] bcast_S_S17 (constant (F := Ideal) S_ .f32 0x00000000#32)) (segT Y K)
      (broadcastInDim S10000 ![] bcast_S_S10000 (constant (F := Ideal) S_ .f32 0x3F800000#32))) slices_S17_S16_0 (ix1 c) = _
    generalize Host.scatterAdd scatter_S17_S10000x1_S10000_n_0_0_1
      (broadcastInDim S17 ![] bcast_S_S17 (constant (F := Ideal) S_ .f32 0x00000000#32)) (segT Y K)
      (broadcastInDim S10000 ![] bcast_S_S10000 (constant (F := Ideal) S_ .f32 0x3F800000#32)) = X
    pointwise []
  rw [e]
  refine (scatter_scalars _ _ _ _ _).trans ?_
  simp only [segT_eq, segment_word]
  unfold count
  have z : broadcastInDim S17 ![] bcast_S_S17 (constant (F := Ideal) S_ .f32 0x00000000#32) (ix1 ⟨c.val, by omega⟩) = 0 := by
    pointwise []
  have o (n : Fin 10000) : broadcastInDim S10000 ![] bcast_S_S10000 (constant (F := Ideal) S_ .f32 0x3F800000#32) (ix1 n) = 1 := by
    pointwise []
  simp only [o]
  rw [z, zero_add]

/-- The means are the model's. -/
theorem meanT_eq (c d : Fin 16) : meanT A Y Z K (ix2 c d) = mean (sums (aF A) (yF Y) (zF Z) (kF K)) (count (yF Y) (kF K)) c d := by
  unfold mean
  rw [← sumsT_eq, ← countT_eq]
  show Host.divf (sumsT A Y Z K) (broadcastInDim S16x16 ![0, 1] bcast_S16x1_S16x16_0_1
    (broadcastInDim S16x1 ![0] bcast_S16_S16x1_0 (countT Y K))) (ix2 c d) = _
  pointwise []

/-! ## One normalisation -/

/-- Every column divided by its sum. -/
def colT (H : FVec Ideal S16x16 .f32) : FVec Ideal S16x16 .f32 :=
  Host.divf H (broadcastInDim S16x16 ![0, 1] bcast_S1x16_S16x16_0_1 (broadcastInDim S1x16 ![1] bcast_S16_S1x16_1
    (Host.reduceAdd H (constant S_ .f32 0x00000000#32) reducesTo_S16x16_S16_d0 h_S_)))

/-- Then every row by its sum. -/
def normT (H : FVec Ideal S16x16 .f32) : FVec Ideal S16x16 .f32 :=
  Host.divf (colT H) (broadcastInDim S16x16 ![0, 1] bcast_S16x1_S16x16_0_1 (broadcastInDim S16x1 ![0] bcast_S16_S16x1_0
    (Host.reduceAdd (colT H) (constant S_ .f32 0x00000000#32) reducesTo_S16x16_S16_d1 h_S_)))

/-- One normalisation is the model's. -/
theorem normT_eq (H : FVec Ideal S16x16 .f32) : normT H = Model.norm H := by
  funext i
  idx_vars i
  unfold Model.norm
  pointwise [normT, colT]

/-- How far a normalisation moves a matrix, as the references compute it. -/
theorem movedT_eq (H : FVec Ideal S16x16 .f32) :
    Host.reduceAdd (Host.absf (subf (normT H) H)) (constant S_ .f32 0x00000000#32) reducesTo_S16x16_S_d0_1 h_S_ = fun _ => moved H := by
  funext i
  unfold moved
  rw [normT_eq]
  generalize Model.norm H = N
  pointwise []

/-- The matrix part of one trip of the references' loop. -/
theorem tripT_1 (H : FVec Ideal S16x16 .f32) (b : IVec S_ 1) :
    select (broadcastInDim S16x16 ![] bcast_S_S16x16 b) H (normT H) = (trip (H, b ix0)).1 := by
  rw [normT_eq]
  funext i
  idx_vars i
  unfold trip
  show Scalar.select (b _) _ _ = (if b ix0 = 1#1 then H else Model.norm H) (ix2 i0 i1)
  rcases BitVec.eq_zero_or_eq_one (b ix0) with h | h
  · rw [if_neg (by rw [h]; decide)]
    refine Eq.trans (congrArg (fun x => Scalar.select x _ _) ((congrArg b ((ix0_eta _).symm)).trans h)) rfl
  · rw [if_pos h]
    refine Eq.trans (congrArg (fun x => Scalar.select x _ _) ((congrArg b ((ix0_eta _).symm)).trans h)) rfl

/-- The flag part of one trip of the references' loop. -/
theorem tripT_2 (H : FVec Ideal S16x16 .f32) (b : IVec S_ 1) :
    ori b (cmpf .olt (Host.reduceAdd (Host.absf (subf (normT H) H)) (constant S_ .f32 0x00000000#32) reducesTo_S16x16_S_d0_1 h_S_)
      (constant S_ .f32 0x2B8CBCCC#32)) ix0 = (trip (H, b ix0)).2 := by
  rw [movedT_eq]
  rfl

/-- A fold whose every trip acts on a matrix `H` and a flag `b` as the references' loop does makes of them the model's
    result, when the flag is clear at its entry. -/
theorem loop_result {α : Type*} (step : α → α) (H : α → FVec Ideal S16x16 .f32) (b : α → IVec S_ 1)
    (h1 : ∀ x, H (step x) = select (broadcastInDim S16x16 ![] bcast_S_S16x16 (b x)) (H x) (normT (H x)))
    (h2 : ∀ x, b (step x) = ori (b x) (cmpf .olt
      (Host.reduceAdd (Host.absf (subf (normT (H x)) (H x))) (constant S_ .f32 0x00000000#32) reducesTo_S16x16_S_d0_1 h_S_)
      (constant S_ .f32 0x2B8CBCCC#32)))
    (x : α) (h0 : b x = fun _ => 0#1) : H (step^[300] x) = result (H x) := by
  have hk : ∀ k, (H (step^[k] x), b (step^[k] x) ix0) = trip^[k] (H x, 0#1) := by
    intro k
    induction k with
    | zero => simp only [Function.iterate_zero, id_eq, h0]
    | succ k ih =>
      rw [Function.iterate_succ_apply', Function.iterate_succ_apply', ← ih, h1, h2]
      exact Prod.ext (tripT_1 _ _) (tripT_2 _ _)
  exact congrArg Prod.fst (hk 300)

/-! ## The repair's last steps -/

/-- Zeros where the mask is set. -/
def zeroT (B : IVec S16x16 1) (H : FVec Ideal S16x16 .f32) : FVec Ideal S16x16 .f32 :=
  select B (broadcastInDim S16x16 ![] bcast_S_S16x16 (constant S_ .f32 0x00000000#32)) H

/-- What each row lacks to one, shared between its masked entries. -/
def missT (B : IVec S16x16 1) (H : FVec Ideal S16x16 .f32) : FVec Ideal S16x1 .f32 :=
  Host.divf
    (subf (broadcastInDim S16x1 ![] bcast_S_S16x1 (constant S_ .f32 0x3F800000#32))
      (broadcastInDim S16x1 ![0] bcast_S16_S16x1_0 (Host.reduceAdd H (constant S_ .f32 0x00000000#32) reducesTo_S16x16_S16_d1 h_S_)))
    (maximumf (broadcastInDim S16x1 ![0] bcast_S16_S16x1_0 (Host.reduceAdd (uitofp (F := Ideal) .f32 B) (constant S_ .f32 0x00000000#32) reducesTo_S16x16_S16_d1 h_S_))
      (broadcastInDim S16x1 ![] bcast_S_S16x1 (constant S_ .f32 0x3F800000#32)))

/-- The masked entries replaced by what their row lacks. -/
def fillT (B : IVec S16x16 1) (H : FVec Ideal S16x16 .f32) : FVec Ideal S16x16 .f32 :=
  select B (broadcastInDim S16x16 ![0, 1] bcast_S16x1_S16x16_0_1 (missT B (zeroT B H))) (zeroT B H)

/-- The zeroing, read. -/
theorem zeroT_eq (B : IVec S16x16 1) (H : FVec Ideal S16x16 .f32) (c d : Fin 16) :
    zeroT B H (ix2 c d) = Scalar.select (B (ix2 c d)) 0 (H (ix2 c d)) := by
  pointwise [zeroT]

/-- What a row lacks, read. -/
theorem missT_eq (B : IVec S16x16 1) (H : FVec Ideal S16x16 .f32) (c : Fin 16) :
    missT B H (ix2 c 0) = Ideal.div (1 - ∑ d : Fin 16, H (ix2 c d)) (max (∑ d : Fin 16, FloatOps.uitofp (F := Ideal) .f32 (B (ix2 c d))) 1) := by
  pointwise [missT]

/-- The filling, read. -/
theorem fillT_eq (B : IVec S16x16 1) (H : FVec Ideal S16x16 .f32) (c d : Fin 16) :
    fillT B H (ix2 c d) = Scalar.select (B (ix2 c d)) (missT B (zeroT B H) (ix2 c 0)) (zeroT B H (ix2 c d)) := by
  unfold fillT
  generalize zeroT B H = N
  generalize missT B N = M
  pointwise []

/-- reference.py's repair: the entries that differ from themselves. -/
def nanT (H : FVec Ideal S16x16 .f32) : FVec Ideal S16x16 .f32 :=
  select (cmpf .une H H) (transpose S16x16 [1, 0] H transposes_S16x16_S16x16_1_0) H

/-- Over the extended reals nothing differs from itself, and the repair is the identity. -/
theorem nan_repair (H : FVec Ideal S16x16 .f32) : fillT (cmpf .une (nanT H) (nanT H)) (nanT H) = H := by
  have h0 (X : FVec Ideal S16x16 .f32) (c d : Fin 16) : cmpf .une X X (ix2 c d) = 0#1 := by
    show BitVec.ofBool (decide (X (ix2 c d) ≠ X (ix2 c d))) = 0#1
    rw [decide_eq_false (fun h => h rfl)]
    rfl
  have h1 : nanT H = H := by
    funext i
    idx_vars i
    show Scalar.select (cmpf .une H H (ix2 i0 i1)) _ _ = _
    rw [h0]
    rfl
  rw [h1]
  funext i
  idx_vars i
  rw [fillT_eq, zeroT_eq, h0]
  rfl

/-- A truth value as a bit is one exactly when it holds. -/
theorem ofBool_eq_one (p : Prop) [Decidable p] : BitVec.ofBool (decide p) = 1#1 ↔ p := by
  by_cases hp : p <;> simp [hp]

/-- The repair by counts is the model's: `E` is set in the rows of the empty classes, and `H` holds the means. -/
theorem count_repair (S : Fin 16 → Fin 16 → EReal) (q : Fin 16 → EReal) (E : IVec S16x16 1) (H : FVec Ideal S16x16 .f32)
    (hE : ∀ c d, E (ix2 c d) = BitVec.ofBool (decide (q c = 0))) (hH : ∀ c d, H (ix2 c d) = mean S q c d) :
    fillT (andi E (transpose S16x16 [1, 0] E transposes_S16x16_S16x16_1_0)) (select E (transpose S16x16 [1, 0] H transposes_S16x16_S16x16_1_0) H)
      = fun i => start S q (i 0) (i 1) := by
  have hB (c d : Fin 16) : andi E (transpose S16x16 [1, 0] E transposes_S16x16_S16x16_1_0) (ix2 c d) = BitVec.ofBool (decide (q c = 0 ∧ q d = 0)) := by
    have e : andi E (transpose S16x16 [1, 0] E transposes_S16x16_S16x16_1_0) (ix2 c d) = IntOp.andi (E (ix2 c d)) (E (ix2 d c)) := by
      pointwise []
    rw [e, hE, hE, andi_ofBool]
  have hX (c d : Fin 16) : select E (transpose S16x16 [1, 0] H transposes_S16x16_S16x16_1_0) H (ix2 c d)
      = if q c = 0 then mean S q d c else mean S q c d := by
    have e : select E (transpose S16x16 [1, 0] H transposes_S16x16_S16x16_1_0) H (ix2 c d) = Scalar.select (E (ix2 c d)) (H (ix2 d c)) (H (ix2 c d)) := by
      pointwise []
    rw [e, hE, hH, hH, select_ofBool]
  generalize andi E (transpose S16x16 [1, 0] E transposes_S16x16_S16x16_1_0) = B at hB ⊢
  generalize select E (transpose S16x16 [1, 0] H transposes_S16x16_S16x16_1_0) H = X at hX ⊢
  have hz (c d : Fin 16) : zeroT B X (ix2 c d) = filled S q c d := by
    rw [zeroT_eq, hB, hX, select_ofBool]
    unfold filled
    by_cases hc : q c = 0 <;> by_cases hd : q d = 0 <;> simp [hc, hd]
  funext i
  idx_vars i
  rw [fillT_eq, missT_eq]
  simp only [hz, hB, select_ofBool, uitofp_bit, ofBool_eq_one]
  rfl

end Cert.Model
end
-- ==== Proof.RefLiteral.lean ====
/-
  The literal reference: the matrix with which its loop is entered, in the host terms of `Host.lean`, and its result in
  the model's terms.
-/
module

public import proofs.«01_k».proof.Proof.Gen.ReferenceIdeal.Run
public import proofs.«01_k».proof.Proof.Host
public import Idealize.ShloMosaic.Lib.StableHlo.RunClose

@[expose] public section

set_option maxRecDepth 16384

noncomputable section
namespace Cert.ReferenceIdeal.Literal

open Idealize.ShloMosaic Idealize.ShloMosaic.TcCoe Idealize.ShloMosaic.StableHlo
open Cert.Model
open Cert.ReferenceIdeal Cert.ReferenceIdeal.Gen Cert.ReferenceIdeal.Value

/-- After the first three stretches: the aggregated features. -/
theorem node_stage (V : Valuation τ sig (Elt Ideal)) :
    after hostOps0_2 (after hostOps0_1 (after hostOps0 V)) (Proc.devRef .tc main_v27)
      = nodeT (V (Proc.devRef .tc main_arg0)) (V (Proc.devRef .tc main_arg1)) (V (Proc.devRef .tc main_arg2)) (V (Proc.devRef .tc main_arg3)) := by
  after_reads_simp
  rfl

/-- The segment words' stretch. -/
theorem seg_stage (V : Valuation τ sig (Elt Ideal)) :
    after hostOps0_3 V (Proc.devRef .tc main_v28) = select (V (Proc.devRef .tc main_arg3)) (V (Proc.devRef .tc main_arg1))
      (broadcastInDim S10000 ![] bcast_S_S10000 (V (Proc.devRef .tc main_c)))
    ∧ after hostOps0_3 V (Proc.devRef .tc main_v27) = V (Proc.devRef .tc main_v27) := by
  constructor
  · after_reads_simp
    rfl
  · after_reads_simp

/-- The word of the segment that is dropped. -/
theorem drop_stage (V : Valuation τ sig (Elt Ideal)) : after hostOps0_2 V (Proc.devRef .tc main_c) = constantI S_ 32 16#32 := by
  after_reads_simp

/-- The means' stretch. -/
theorem mean_stage (V : Valuation τ sig (Elt Ideal)) :
    after hostOps0_4 V (Proc.devRef .tc main_v40) = meansOf (V (Proc.devRef .tc main_v28)) (V (Proc.devRef .tc main_v27)) := by
  after_reads_simp
  rfl

/-- The repair's stretches: reference.py's repair of the means. -/
theorem repair_stage (V : Valuation τ sig (Elt Ideal)) :
    after hostOps0_10 (after hostOps0_9 (after hostOps0_8 (after hostOps0_7 (after hostOps0_6 (after hostOps0_5 (after hostOps0_4 V))))))
        (Proc.devRef .tc main_v57_1)
      = fillT (cmpf .une (nanT (after hostOps0_4 V (Proc.devRef .tc main_v40))) (nanT (after hostOps0_4 V (Proc.devRef .tc main_v40))))
          (nanT (after hostOps0_4 V (Proc.devRef .tc main_v40))) := by
  after_reads_simp
  rfl

/-- The flag is clear at the loop's entry. -/
theorem flag_stage (V : Valuation τ sig (Elt Ideal)) : after hostOps0_10 V (Proc.devRef .tc main_v57_2) = fun _ => 0#1 := by
  after_reads_simp
  rfl

/-- One trip's matrix. -/
theorem matrix_step (V : Valuation τ sig (Elt Ideal)) : STEP V (Proc.devRef .tc main_v57_1)
    = select (broadcastInDim S16x16 ![] bcast_S_S16x16 (V (Proc.devRef .tc main_v57_2))) (V (Proc.devRef .tc main_v57_1))
        (normT (V (Proc.devRef .tc main_v57_1))) := by
  rw [STEP_main_v57_1]
  unfold step_main_v57_1 res_main_while0b_v65 res_main_while0b_v61 normT colT
  rfl

/-- One trip's flag. -/
theorem flag_step (V : Valuation τ sig (Elt Ideal)) : STEP V (Proc.devRef .tc main_v57_2)
    = ori (V (Proc.devRef .tc main_v57_2)) (cmpf .olt
        (Host.reduceAdd (Host.absf (subf (normT (V (Proc.devRef .tc main_v57_1))) (V (Proc.devRef .tc main_v57_1))))
          (constant S_ .f32 0x00000000#32) reducesTo_S16x16_S_d0_1 h_S_) (constant S_ .f32 0x2B8CBCCC#32)) := by
  rw [STEP_main_v57_2]
  unfold step_main_v57_2 res_main_while0b_v65 res_main_while0b_v61 normT colT
  rfl

variable (m : (ℓ : Loc nD τ sig) → Buf (Elt Ideal) ℓ) (c : Dev nD)

/-- The loop is entered with the means. -/
theorem entry_eq : entryContents preI m c (Proc.devRef .tc main_v57_1)
    = meanT (m ((c : Thread nD τ).loc main_arg0)) (m ((c : Thread nD τ).loc main_arg1)) (m ((c : Thread nD τ).loc main_arg2))
        (m ((c : Thread nD τ).loc main_arg3)) := by
  simp only [entryContents, afterL_cons, afterL_nil]
  rw [repair_stage, nan_repair, mean_stage, (seg_stage _).1, (seg_stage _).2, node_stage, drop_stage,
    keep_main_arg3_hostOps0_2, keep_main_arg3_hostOps0_1, keep_main_arg3_hostOps0,
    keep_main_arg1_hostOps0_2, keep_main_arg1_hostOps0_1, keep_main_arg1_hostOps0]
  rfl

/-- The literal reference's result: the model's loop, entered with the means. -/
theorem result_eq : STEP^[300] (entryContents preI m c) (Proc.devRef .tc main_v57_1)
    = result (meanT (m ((c : Thread nD τ).loc main_arg0)) (m ((c : Thread nD τ).loc main_arg1)) (m ((c : Thread nD τ).loc main_arg2))
        (m ((c : Thread nD τ).loc main_arg3))) := by
  have h0 : entryContents preI m c (Proc.devRef .tc main_v57_2) = fun _ => 0#1 := by
    simp only [entryContents, afterL_cons, afterL_nil]
    exact flag_stage _
  rw [← entry_eq]
  exact loop_result (α := Valuation τ sig (Elt Ideal)) (STEP (F := Ideal)) (fun V => V (Proc.devRef .tc main_v57_1))
    (fun V => V (Proc.devRef .tc main_v57_2)) matrix_step flag_step (entryContents preI m c) h0

end Cert.ReferenceIdeal.Literal
end
-- ==== Proof.RefByCount.lean ====
/-
  The reference that repairs by the counts: the matrix with which its loop is entered, in the host terms of `Host.lean`, and its result in
  the model's terms.
-/
module

public import proofs.«01_k».proof.Proof.Gen.ReferenceByCountIdeal.Run
public import proofs.«01_k».proof.Proof.Host
public import Idealize.ShloMosaic.Lib.StableHlo.RunClose

@[expose] public section

set_option maxRecDepth 16384

noncomputable section
namespace Cert.ReferenceByCountIdeal.ByCount

open Idealize.ShloMosaic Idealize.ShloMosaic.TcCoe Idealize.ShloMosaic.StableHlo
open Cert.Model
open Cert.ReferenceByCountIdeal Cert.ReferenceByCountIdeal.Gen Cert.ReferenceByCountIdeal.Value

/-- The rows of the classes whose count is zero, from the segment words. -/
def emptyOf (s : IVec S10000 32) : IVec S16x16 1 :=
  broadcastInDim S16x16 ![0, 1] bcast_S16x1_S16x16_0_1 (broadcastInDim S16x1 ![0] bcast_S16_S16x1_0
    (cmpf .oeq (countsOf s) (broadcastInDim S16 ![] bcast_S_S16 (constant S_ .f32 0x00000000#32))))

/-- They are the rows in which the model's count is zero. -/
theorem emptyOf_eq (Y : IVec S10000 32) (K : IVec S10000 1) (c d : Fin 16) :
    emptyOf (select K Y (broadcastInDim S10000 ![] bcast_S_S10000 (constantI S_ 32 16#32))) (ix2 c d)
      = BitVec.ofBool (decide (count (yF Y) (kF K) c = 0)) := by
  rw [← countT_eq]
  show broadcastInDim S16x16 ![0, 1] bcast_S16x1_S16x16_0_1 (broadcastInDim S16x1 ![0] bcast_S16_S16x1_0
    (cmpf .oeq (countT Y K) (broadcastInDim S16 ![] bcast_S_S16 (constant S_ .f32 0x00000000#32)))) (ix2 c d) = _
  generalize countT Y K = q
  pointwise []

/-- After the first three stretches: the aggregated features. -/
theorem node_stage (V : Valuation τ sig (Elt Ideal)) :
    after hostOps0_2 (after hostOps0_1 (after hostOps0 V)) (Proc.devRef .tc main_v25)
      = nodeT (V (Proc.devRef .tc main_arg0)) (V (Proc.devRef .tc main_arg1)) (V (Proc.devRef .tc main_arg2)) (V (Proc.devRef .tc main_arg3)) := by
  after_reads_simp
  rfl

/-- The segment words' stretch. -/
theorem seg_stage (V : Valuation τ sig (Elt Ideal)) :
    after hostOps0_3 V (Proc.devRef .tc main_v26) = select (V (Proc.devRef .tc main_arg3)) (V (Proc.devRef .tc main_arg1))
      (broadcastInDim S10000 ![] bcast_S_S10000 (V (Proc.devRef .tc main_c)))
    ∧ after hostOps0_3 V (Proc.devRef .tc main_v25) = V (Proc.devRef .tc main_v25) := by
  constructor
  · after_reads_simp
    rfl
  · after_reads_simp

/-- The word of the segment that is dropped. -/
theorem drop_stage (V : Valuation τ sig (Elt Ideal)) : after hostOps0_2 V (Proc.devRef .tc main_c) = constantI S_ 32 16#32 := by
  after_reads_simp

/-- The means' stretch: the means, their transpose, and the rows of the empty classes. -/
theorem mean_stage (V : Valuation τ sig (Elt Ideal)) :
    after hostOps0_4 V (Proc.devRef .tc main_v38) = meansOf (V (Proc.devRef .tc main_v26)) (V (Proc.devRef .tc main_v25))
    ∧ after hostOps0_4 V (Proc.devRef .tc main_v43) = transpose S16x16 [1, 0]
      (meansOf (V (Proc.devRef .tc main_v26)) (V (Proc.devRef .tc main_v25))) transposes_S16x16_S16x16_1_0
    ∧ after hostOps0_4 V (Proc.devRef .tc main_v42) = emptyOf (V (Proc.devRef .tc main_v26)) := by
  refine ⟨?_, ?_, ?_⟩ <;> (after_reads_simp; rfl)

/-- The repair's stretches: the repair by the rows of the empty classes. -/
theorem repair_stage (V : Valuation τ sig (Elt Ideal)) :
    after hostOps0_10 (after hostOps0_9 (after hostOps0_8 (after hostOps0_7 (after hostOps0_6 (after hostOps0_5 V)))))
        (Proc.devRef .tc main_v59_1)
      = fillT (andi (V (Proc.devRef .tc main_v42)) (transpose S16x16 [1, 0] (V (Proc.devRef .tc main_v42)) transposes_S16x16_S16x16_1_0))
          (select (V (Proc.devRef .tc main_v42)) (V (Proc.devRef .tc main_v43)) (V (Proc.devRef .tc main_v38))) := by
  after_reads_simp
  rfl

/-- The flag is clear at the loop's entry. -/
theorem flag_stage (V : Valuation τ sig (Elt Ideal)) : after hostOps0_10 V (Proc.devRef .tc main_v59_2) = fun _ => 0#1 := by
  after_reads_simp
  rfl

/-- One trip's matrix. -/
theorem matrix_step (V : Valuation τ sig (Elt Ideal)) : STEP V (Proc.devRef .tc main_v59_1)
    = select (broadcastInDim S16x16 ![] bcast_S_S16x16 (V (Proc.devRef .tc main_v59_2))) (V (Proc.devRef .tc main_v59_1))
        (normT (V (Proc.devRef .tc main_v59_1))) := by
  rw [STEP_main_v59_1]
  unfold step_main_v59_1 res_main_while0b_v67 res_main_while0b_v63 normT colT
  rfl

/-- One trip's flag. -/
theorem flag_step (V : Valuation τ sig (Elt Ideal)) : STEP V (Proc.devRef .tc main_v59_2)
    = ori (V (Proc.devRef .tc main_v59_2)) (cmpf .olt
        (Host.reduceAdd (Host.absf (subf (normT (V (Proc.devRef .tc main_v59_1))) (V (Proc.devRef .tc main_v59_1))))
          (constant S_ .f32 0x00000000#32) reducesTo_S16x16_S_d0_1 h_S_) (constant S_ .f32 0x2B8CBCCC#32)) := by
  rw [STEP_main_v59_2]
  unfold step_main_v59_2 res_main_while0b_v67 res_main_while0b_v63 normT colT
  rfl

variable (m : (ℓ : Loc nD τ sig) → Buf (Elt Ideal) ℓ) (c : Dev nD)

/-- The loop is entered with the model's repaired means. -/
theorem entry_eq : entryContents preI m c (Proc.devRef .tc main_v59_1)
    = fun i => start (sums (aF (m ((c : Thread nD τ).loc main_arg0))) (yF (m ((c : Thread nD τ).loc main_arg1)))
          (zF (m ((c : Thread nD τ).loc main_arg2))) (kF (m ((c : Thread nD τ).loc main_arg3))))
        (count (yF (m ((c : Thread nD τ).loc main_arg1))) (kF (m ((c : Thread nD τ).loc main_arg3)))) (i 0) (i 1) := by
  simp only [entryContents, afterL_cons, afterL_nil]
  rw [repair_stage, (mean_stage _).1, (mean_stage _).2.1, (mean_stage _).2.2, (seg_stage _).1, (seg_stage _).2, node_stage, drop_stage,
    keep_main_arg3_hostOps0_2, keep_main_arg3_hostOps0_1, keep_main_arg3_hostOps0,
    keep_main_arg1_hostOps0_2, keep_main_arg1_hostOps0_1, keep_main_arg1_hostOps0]
  exact count_repair _ _ _ _ (emptyOf_eq _ _) (meanT_eq _ _ _ _)

/-- The by-count reference's result: the model's loop, entered with the repaired means. -/
theorem result_eq : STEP^[300] (entryContents preI m c) (Proc.devRef .tc main_v59_1)
    = result (fun i => start (sums (aF (m ((c : Thread nD τ).loc main_arg0))) (yF (m ((c : Thread nD τ).loc main_arg1)))
          (zF (m ((c : Thread nD τ).loc main_arg2))) (kF (m ((c : Thread nD τ).loc main_arg3))))
        (count (yF (m ((c : Thread nD τ).loc main_arg1))) (kF (m ((c : Thread nD τ).loc main_arg3)))) (i 0) (i 1)) := by
  have h0 : entryContents preI m c (Proc.devRef .tc main_v59_2) = fun _ => 0#1 := by
    simp only [entryContents, afterL_cons, afterL_nil]
    exact flag_stage _
  refine (loop_result (α := Valuation τ sig (Elt Ideal)) (STEP (F := Ideal)) (fun V => V (Proc.devRef .tc main_v59_1))
    (fun V => V (Proc.devRef .tc main_v59_2)) matrix_step flag_step (entryContents preI m c) h0).trans (congrArg result (entry_eq m c))

end Cert.ReferenceByCountIdeal.ByCount
end
-- ==== Proof.Conditions.lean ====
/-
  What the two preconditions say, in the model's terms: every row of the adjacency matrix is usable, and every
  class has a labelled node.
-/
module

public import proofs.«01_k».proof.Pre_usable_rows
public import proofs.«01_k».proof.Pre_usable_rows_and_labelled_classes
public import proofs.«01_k».proof.Proof.Near
public import Idealize.ShloMosaic.Lib.Pointwise
public import Idealize.ShloMosaic.Lib.ReduceAll
public import Idealize.ShloMosaic.Lib.Routing.OpsOrder

@[expose] public section

set_option maxRecDepth 16384

noncomputable section
namespace Cert.Conditions

open Idealize.ShloMosaic
open Cert.Model

/-- A conjunction of two bits is set when both are. -/
theorem andi_one : ∀ x y : BitVec 1, IntOp.andi x y = 1#1 → x = 1#1 ∧ y = 1#1 := by decide

/-- A fold of bits by «and» that is set had every bit set. -/
theorem fold_andi {ι : Type} (s : Finset ι) (p : ι → BitVec 1) (h : Finset.fold IntOp.andi (1#1) p s = 1#1) : ∀ x ∈ s, p x = 1#1 := by
  classical
  induction s using Finset.induction_on with
  | empty => exact fun x hx => absurd hx (Finset.notMem_empty _)
  | insert a s ha ih =>
    rw [Finset.fold_insert ha] at h
    obtain ⟨h1, h2⟩ := andi_one _ _ h
    intro x hx
    rcases Finset.mem_insert.1 hx with rfl | hx
    · exact h1
    · exact ih h2 x hx

/-- A truth value as a bit is set only when it holds. -/
theorem of_bit (p : Prop) [Decidable p] (h : BitVec.ofBool (decide p) = 1#1) : p := by
  by_contra hn
  rw [decide_eq_false hn] at h
  exact absurd h (by decide)

section
open Cert.Pre_usable_rows Cert.Pre_usable_rows.Facts

variable [Cert.Pre_usable_rows.Facts] (A : FVec Ideal S10000x10000 .f32) (K : IVec S10000 1)

/-- Whether each row is zero throughout. -/
def zeroT : IVec S10000 1 :=
  Host.reduce IntOp.andi (cmpf .oeq A (broadcastInDim S10000x10000 ![] bcast_S_S10000x10000 (constant S_ .f32 0x00000000#32)))
    (constantI S_ 1 1#1) reducesTo_S10000x10000_S10000_d1 h_S_

/-- Whether each row has a sum other than zero. -/
def sumT : IVec S10000 1 :=
  cmpf .une (Host.reduceAdd A (constant S_ .f32 0x00000000#32) reducesTo_S10000x10000_S10000_d1 h_S_)
    (broadcastInDim S10000 ![] bcast_S_S10000 (constant S_ .f32 0x00000000#32))

/-- The test of the rows. -/
def rowsT : IVec S10000 1 := ori (sumT A) (andi (zeroT A) (noti K))

/-- A row whose sum passes has a sum other than zero. -/
theorem sumT_ne (n : Fin 10000) (h : sumT A (ix1 n) = 1#1) : (∑ l : Fin 10000, A (ix2 n l)) ≠ 0 := by
  have e : sumT A (ix1 n) = FloatOps.cmpf (F := Ideal) (φ := .f32) .une (∑ l : Fin 10000, A (ix2 n l)) 0 := by
    pointwise [sumT]
  rw [e] at h
  exact of_bit ((∑ l : Fin 10000, A (ix2 n l)) ≠ 0) h

/-- A row that passes as zero is zero. -/
theorem zeroT_zero (n : Fin 10000) (h : zeroT A (ix1 n) = 1#1) (l : Fin 10000) : A (ix2 n l) = 0 := by
  have e : zeroT A (ix1 n) = Finset.fold IntOp.andi (1#1) (fun l : Fin 10000 => FloatOps.cmpf (F := Ideal) (φ := .f32) .oeq (A (ix2 n l)) 0) Finset.univ := by
    pointwise [zeroT]
  rw [e] at h
  exact of_bit (A (ix2 n l) = 0) (fold_andi _ _ h l (Finset.mem_univ _))

/-- A row that passes the test is usable. -/
theorem rowsT_usable (n : Fin 10000) (h : rowsT A K (ix1 n) = 1#1) : Usable (fun n l => A (ix2 n l)) (fun n => K (ix1 n)) n := by
  have e : IntOp.ori (sumT A (ix1 n)) (IntOp.andi (zeroT A (ix1 n)) (~~~ (K (ix1 n)))) = 1#1 := h
  have ori_one : ∀ x y : BitVec 1, IntOp.ori x y = 1#1 → x = 1#1 ∨ y = 1#1 := by decide
  have not_one : ∀ x : BitVec 1, ~~~ x = 1#1 → x ≠ 1#1 := by decide
  rcases ori_one _ _ e with h1 | h2
  · exact Or.inl (sumT_ne A n h1)
  · obtain ⟨h1, h3⟩ := andi_one _ _ h2
    exact Or.inr ⟨zeroT_zero A n h1, not_one _ h3⟩

/-- The first precondition makes every row usable. -/
theorem usable (Y : IVec S10000 32) (Z : FVec Ideal S10000x16 .f32) (h : fn A Y Z K = fun _ => 1#1) (n : Fin 10000) :
    Usable (fun n l => A (ix2 n l)) (fun n => K (ix1 n)) n :=
  rowsT_usable A K n (congrFun h (ix1 n))

end

section
open Cert.Pre_usable_rows_and_labelled_classes Cert.Pre_usable_rows_and_labelled_classes.Facts

variable [Cert.Pre_usable_rows.Facts] [Cert.Pre_usable_rows_and_labelled_classes.Facts]
variable (A : FVec Ideal S10000x10000 .f32) (Y : IVec S10000 32) (Z : FVec Ideal S10000x16 .f32) (K : IVec S10000 1)

/-- Whether each node is a labelled node of each class. -/
def labelledT : IVec S10000x16 1 :=
  andi (cmpi .eq (broadcastInDim S10000x16 ![0, 1] bcast_S10000x1_S10000x16_0_1 (broadcastInDim S10000x1 ![0] bcast_S10000_S10000x1_0 Y))
      (broadcastInDim S10000x16 ![0, 1] bcast_S1x16_S10000x16_0_1 (broadcastInDim S1x16 ![1] bcast_S16_S1x16_1 (iotaInDim S16 32 0))))
    (broadcastInDim S10000x16 ![0, 1] bcast_S10000x1_S10000x16_0_1 (broadcastInDim S10000x1 ![0] bcast_S10000_S10000x1_0 K))

/-- Whether each class has a labelled node. -/
def classesT : IVec S16 1 := Host.reduce IntOp.ori (labelledT Y K) (constantI S_ 1 0#1) reducesTo_S10000x16_S16_d0 h_S_

/-- The second precondition is that both tests hold throughout. -/
theorem both (h : fn A Y Z K = fun _ => 1#1) : (∀ n : Fin 10000, rowsT A K (ix1 n) = 1#1) ∧ ∀ c : Fin 16, classesT Y K (ix1 c) = 1#1 := by
  have e : IntOp.andi (Host.reduce IntOp.andi (rowsT A K) (constantI S_ 1 1#1) reducesTo_S10000_S_d0 h_S_ ix0)
      (Host.reduce IntOp.andi (classesT Y K) (constantI S_ 1 1#1) reducesTo_S16_S_d0 h_S_ ix0) = 1#1 := congrFun h ix0
  haveI : Subsingleton S_.Idx := ⟨fun i j => funext fun d => d.elim0⟩
  obtain ⟨e1, e2⟩ := andi_one _ _ e
  exact ⟨fun n => Host.reduce_andi_all _ _ _ _ _ e1 (ix1 n), fun c => Host.reduce_andi_all _ _ _ _ _ e2 (ix1 c)⟩

/-- The second precondition makes every row usable. -/
theorem usable' (h : fn A Y Z K = fun _ => 1#1) (n : Fin 10000) : Usable (fun n l => A (ix2 n l)) (fun n => K (ix1 n)) n :=
  rowsT_usable A K n ((both A Y Z K h).1 n)

/-- The second precondition gives every class a count other than zero. -/
theorem count_ne_zero (h : fn A Y Z K = fun _ => 1#1) (c : Fin 16) : count (fun n => Y (ix1 n)) (fun n => K (ix1 n)) c ≠ 0 := by
  have hc := (both A Y Z K h).2 c
  have e : classesT Y K (ix1 c) = Finset.fold IntOp.ori (0#1) (fun n : Fin 10000 => labelledT Y K (ix2 n c)) Finset.univ := by
    unfold classesT
    generalize labelledT Y K = L
    pointwise []
  rw [e, Idealize.ShloMosaic.Routing.fold_ori] at hc
  obtain ⟨n, -, hn⟩ := hc
  have e' : labelledT Y K (ix2 n c) = IntOp.andi (IntOp.cmpi .eq (Y (ix1 n)) (BitVec.ofNat 32 c.val)) (K (ix1 n)) := by
    pointwise [labelledT]
  rw [e'] at hn
  obtain ⟨h1, h2⟩ := andi_one _ _ hn
  have h3 : Y (ix1 n) = BitVec.ofNat 32 c.val := by
    by_contra hne
    have : IntOp.cmpi .eq (Y (ix1 n)) (BitVec.ofNat 32 c.val) = 0#1 := by
      show BitVec.ofBool (Y (ix1 n) == BitVec.ofNat 32 c.val) = 0#1
      rw [beq_eq_false_iff_ne.mpr hne]
      rfl
    rw [this] at h1
    exact absurd h1 (by decide)
  rw [count_nat]
  have hm : n ∈ Finset.univ.filter fun n => Labelled (fun n => Y (ix1 n)) (fun n => K (ix1 n)) n c :=
    Finset.mem_filter.2 ⟨Finset.mem_univ _, h2, h3⟩
  exact Nat.cast_ne_zero.2 (Finset.card_pos.2 ⟨n, hm⟩).ne'

end

end Cert.Conditions
end
-- ==== Proof.lean ====
/-
  The proof of `Cert.Claim`. The frames are the programs' runs weakened, or the kernel's generated frames. The two value
  claims put the kernel's result (`Proof/KernelResult.lean`) beside each reference's (`Proof/RefLiteral.lean`,
  `Proof/RefByCount.lean`) in the terms of `Proof/Model.lean`.
-/
module

public import proofs.«01_k».proof.Defs
public import proofs.«01_k».proof.Proof.Gen.Kernel.Frame
public import proofs.«01_k».proof.Proof.Gen.KernelIdeal.Value
public import proofs.«01_k».proof.Proof.Gen.Pre_usable_rows
public import proofs.«01_k».proof.Proof.Gen.Pre_usable_rows_and_labelled_classes
public import proofs.«01_k».proof.Proof.Gen.ReferenceByCountIdeal.Run
public import proofs.«01_k».proof.Proof.Gen.ReferenceIdeal.Run
public import proofs.«01_k».proof.Proof.KernelResult
public import proofs.«01_k».proof.Proof.RefLiteral
public import proofs.«01_k».proof.Proof.RefByCount
public import proofs.«01_k».proof.Proof.Conditions
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem
open Cert.Model

/-- The literal reference ends from every memory, its arguments and counters as they were. -/
theorem frame_literal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The by-count reference ends from every memory, its arguments and counters as they were. -/
theorem frame_by_count : quiescent_ReferenceByCountIdeal := fun m ρ _ =>
  (θ_run Cert.ReferenceByCountIdeal.defs _ _).mono (fun r h => ⟨fun c => (h c).2, sem_eq_zero_of_no_sems (by decide) r.2⟩)
    (Cert.ReferenceByCountIdeal.Value.run (F := Ideal) m ρ)

/-- With usable rows and a labelled node in every class, the kernel's result is the literal reference's. -/
theorem value_literal : algebraic_KernelIdeal_ReferenceIdeal_pre_usable_rows_and_labelled_classes := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Literal.result_eq]
  simp only [hagree c]
  refine Eq.trans (congrArg result ?_) (Cert.KernelIdeal.Fold.G2_eq m c (Cert.Conditions.usable' _ _ _ _ (hpre c))).symm
  funext i
  exact (congrArg _ (eq_ix2 i)).trans ((meanT_eq _ _ _ _ (i 0) (i 1)).trans
    (start_of_pos (Cert.Conditions.count_ne_zero _ _ _ _ (hpre c)) (i 0) (i 1)).symm)

/-- With usable rows, the kernel's result is the by-count reference's. -/
theorem value_by_count : algebraic_KernelIdeal_ReferenceByCountIdeal_pre_usable_rows := by
  intro m ρ m' ρ' hpre hagree
  refine ⟨_, Cert.KernelIdeal.Value.run (F := Ideal) m ρ, ?_⟩
  refine (θ_run Cert.ReferenceByCountIdeal.defs _ _).mono (fun _ h c => ⟨?_, (h c).2⟩) (Cert.ReferenceByCountIdeal.Value.run (F := Ideal) m' ρ')
  rw [(h c).1, Cert.ReferenceByCountIdeal.ByCount.result_eq]
  simp only [hagree c]
  exact (Cert.KernelIdeal.Fold.G2_eq m c (Cert.Conditions.usable _ _ _ _ (hpre c))).symm

/-- Everything the certificate claims. -/
theorem claim : Cert.Claim := ⟨Cert.Kernel.Gen.facts, Cert.KernelIdeal.Gen.facts, Cert.ReferenceIdeal.Gen.facts, Cert.ReferenceByCountIdeal.Gen.facts,
  Cert.Pre_usable_rows_and_labelled_classes.Gen.facts, Cert.Pre_usable_rows.Gen.facts,
  fun m ρ _ => Cert.Kernel.Gen.frame m ρ, fun m ρ _ => Cert.KernelIdeal.Gen.frame m ρ, fun m ρ _ => Cert.KernelIdeal.Gen.frame m ρ,
  fun m ρ _ => Cert.KernelIdeal.Gen.frame m ρ, frame_literal, fun m ρ _ => frame_literal m ρ trivial, frame_by_count,
  fun m ρ _ => frame_by_count m ρ trivial, (trivial : preserves_Kernel_KernelIdeal), value_literal, value_by_count⟩

end Cert.Proof

end
